-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x384x2560 : Shape := ⟨3, ![5, 384, 2560]⟩
abbrev S5x384x9728 : Shape := ⟨3, ![5, 384, 9728]⟩
abbrev S5x384x76 : Shape := ⟨3, ![5, 384, 76]⟩
abbrev S9728x2560 : Shape := ⟨2, ![9728, 2560]⟩
abbrev S76x20 : Shape := ⟨2, ![76, 20]⟩
abbrev S2560 : Shape := ⟨1, ![2560]⟩
abbrev S5 : Shape := ⟨1, ![5]⟩
abbrev S20x76 : Shape := ⟨2, ![20, 76]⟩
abbrev S5x76x384 : Shape := ⟨3, ![5, 76, 384]⟩
abbrev S1x2560 : Shape := ⟨2, ![1, 2560]⟩
abbrev S5x1x2560 : Shape := ⟨3, ![5, 1, 2560]⟩
abbrev S5x1x128 : Shape := ⟨3, ![5, 1, 128]⟩
abbrev S1x384x9728 : Shape := ⟨3, ![1, 384, 9728]⟩
abbrev S1x76x384 : Shape := ⟨3, ![1, 76, 384]⟩
abbrev S9728x512 : Shape := ⟨2, ![9728, 512]⟩
abbrev S1x384x512 : Shape := ⟨3, ![1, 384, 512]⟩
abbrev S1x512 : Shape := ⟨2, ![1, 512]⟩
abbrev S1x384x2560 : Shape := ⟨3, ![1, 384, 2560]⟩
abbrev S1x1x2560 : Shape := ⟨3, ![1, 1, 2560]⟩
abbrev S1x1x128 : Shape := ⟨3, ![1, 1, 128]⟩
abbrev S384x9728 : Shape := ⟨2, ![384, 9728]⟩
abbrev S512x512 : Shape := ⟨2, ![512, 512]⟩
abbrev S384x128 : Shape := ⟨2, ![384, 128]⟩
abbrev S5x384x512 : Shape := ⟨3, ![5, 384, 512]⟩
abbrev S76x384 : Shape := ⟨2, ![76, 384]⟩
abbrev S384x76 : Shape := ⟨2, ![384, 76]⟩
abbrev S384x1 : Shape := ⟨2, ![384, 1]⟩
abbrev S1x384x128 : Shape := ⟨3, ![1, 384, 128]⟩
abbrev S384x512 : Shape := ⟨2, ![384, 512]⟩
abbrev S1x1 : Shape := ⟨2, ![1, 1]⟩
abbrev S128x128 : Shape := ⟨2, ![128, 128]⟩
abbrev S1 : Shape := ⟨1, ![1]⟩
abbrev S384 : Shape := ⟨1, ![384]⟩
abbrev S512 : Shape := ⟨1, ![512]⟩
abbrev S1x128 : Shape := ⟨2, ![1, 128]⟩
abbrev S5x2560 : Shape := ⟨2, ![5, 2560]⟩
abbrev S5x1x1 : Shape := ⟨3, ![5, 1, 1]⟩

abbrev nBuf : Space → Nat
  | .hbm => 22
  | .vmem => 24
  | .smem => 2
  | _ => 0

abbrev bufTy : (tb : Table) → Fin (tcTables nBuf tb) → BufTy
  | .hbm, ⟨0, _⟩ => ⟨S5x384x2560, .bf16⟩
  | .hbm, ⟨1, _⟩ => ⟨S5x384x9728, .fp8e4m3⟩
  | .hbm, ⟨2, _⟩ => ⟨S5x384x76, .f32⟩
  | .hbm, ⟨3, _⟩ => ⟨S9728x2560, .fp8e4m3⟩
  | .hbm, ⟨4, _⟩ => ⟨S76x20, .f32⟩
  | .hbm, ⟨5, _⟩ => ⟨S2560, .f32⟩
  | .hbm, ⟨6, _⟩ => ⟨S2560, .f32⟩
  | .hbm, ⟨7, _⟩ => ⟨S2560, .f32⟩
  | .hbm, ⟨8, _⟩ => ⟨S5, .i32⟩
  | .hbm, ⟨9, _⟩ => ⟨S20x76, .f32⟩
  | .hbm, ⟨10, _⟩ => ⟨S5x76x384, .f32⟩
  | .hbm, ⟨11, _⟩ => ⟨S1x2560, .f32⟩
  | .hbm, ⟨12, _⟩ => ⟨S1x2560, .f32⟩
  | .hbm, ⟨13, _⟩ => ⟨S1x2560, .f32⟩
  | .hbm, ⟨14, _⟩ => ⟨S5x384x2560, .f32⟩
  | .hbm, ⟨15, _⟩ => ⟨S5x1x2560, .f32⟩
  | .hbm, ⟨16, _⟩ => ⟨S5x1x2560, .i8⟩
  | .hbm, ⟨17, _⟩ => ⟨S5x1x128, .f32⟩
  | .hbm, ⟨18, _⟩ => ⟨S5x2560, .f32⟩
  | .hbm, ⟨19, _⟩ => ⟨S5x2560, .i8⟩
  | .hbm, ⟨20, _⟩ => ⟨S5x1x1, .f32⟩
  | .hbm, ⟨21, _⟩ => ⟨S5, .f32⟩
  | .local _ .vmem, ⟨0, _⟩ => ⟨S1x384x9728, .fp8e4m3⟩
  | .local _ .vmem, ⟨1, _⟩ => ⟨S1x384x9728, .fp8e4m3⟩
  | .local _ .vmem, ⟨2, _⟩ => ⟨S1x76x384, .f32⟩
  | .local _ .vmem, ⟨3, _⟩ => ⟨S1x76x384, .f32⟩
  | .local _ .vmem, ⟨4, _⟩ => ⟨S9728x512, .fp8e4m3⟩
  | .local _ .vmem, ⟨5, _⟩ => ⟨S9728x512, .fp8e4m3⟩
  | .local _ .vmem, ⟨6, _⟩ => ⟨S1x384x512, .bf16⟩
  | .local _ .vmem, ⟨7, _⟩ => ⟨S1x384x512, .bf16⟩
  | .local _ .vmem, ⟨8, _⟩ => ⟨S1x512, .f32⟩
  | .local _ .vmem, ⟨9, _⟩ => ⟨S1x512, .f32⟩
  | .local _ .vmem, ⟨10, _⟩ => ⟨S1x2560, .f32⟩
  | .local _ .vmem, ⟨11, _⟩ => ⟨S1x2560, .f32⟩
  | .local _ .vmem, ⟨12, _⟩ => ⟨S1x384x2560, .f32⟩
  | .local _ .vmem, ⟨13, _⟩ => ⟨S1x384x2560, .f32⟩
  | .local _ .vmem, ⟨14, _⟩ => ⟨S1x1x2560, .f32⟩
  | .local _ .vmem, ⟨15, _⟩ => ⟨S1x1x2560, .f32⟩
  | .local _ .vmem, ⟨16, _⟩ => ⟨S1x1x2560, .i8⟩
  | .local _ .vmem, ⟨17, _⟩ => ⟨S1x1x2560, .i8⟩
  | .local _ .vmem, ⟨18, _⟩ => ⟨S1x1x128, .f32⟩
  | .local _ .vmem, ⟨19, _⟩ => ⟨S1x1x128, .f32⟩
  | .local _ .vmem, ⟨20, _⟩ => ⟨S384x9728, .bf16⟩
  | .local _ .vmem, ⟨21, _⟩ => ⟨S512x512, .bf16⟩
  | .local _ .vmem, ⟨22, _⟩ => ⟨S384x128, .f32⟩
  | .local _ .vmem, ⟨23, _⟩ => ⟨S5x384x512, .f32⟩
  | .local _ .smem, ⟨0, _⟩ => ⟨S5, .i32⟩
  | .local _ .smem, ⟨1, _⟩ => ⟨S20x76, .f32⟩
  | _, _ => ⟨S5x384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![5, 5], ![false, false]⟩

def k0_off1 (i : grid0.Coords) : Fin 3 → Nat :=
  let arg1 : BitVec 32 := BitVec.ofNat 32 (i 1).val
  let v10 : Index := Scalar.indexCast arg1
  let c0_5 : Index := 0#32
  let c0_6 : Index := 0#32
  ![v10.toNat, 0, 0]
@[reducible] def k0_t1_loop : Scf.Loop 32 :=
  let c0_i32_7 : BitVec 32 := 0#32
  let c19_i32 : BitVec 32 := 19#32
  let v14 : BitVec 32 := Scalar.addi c0_i32_7 c19_i32
  let c1_i32 : BitVec 32 := 1#32
  ⟨c0_i32_7, v14, c1_i32⟩
def k0_off2 (i : grid0.Coords) (k0_t1 : Fin k0_t1_loop.trips) (c0_i32_11 : BitVec 32) (c0_i32_13 : BitVec 32) : Fin 2 → Nat :=
  let arg1 : BitVec 32 := BitVec.ofNat 32 (i 1).val
  let c4_i32_10 : BitVec 32 := 4#32
  let v18 : BitVec 32 := Scalar.muli arg1 c4_i32_10
  let v19 : BitVec 32 := Scalar.addi v18 c0_i32_11
  let v22 : Index := Scalar.indexCast v19
  let c0_i32_7 : BitVec 32 := 0#32
  let c1_i32 : BitVec 32 := 1#32
  let arg19 : BitVec 32 := Scf.iv c0_i32_7 c1_i32 k0_t1
  let c4_i32_12 : BitVec 32 := 4#32
  let v20 : BitVec 32 := Scalar.muli arg19 c4_i32_12
  let v21 : BitVec 32 := Scalar.addi v20 c0_i32_13
  let v23 : Index := Scalar.indexCast v21
  ![v22.toNat, v23.toNat]
def k0_mult1 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32 : BitVec 32 := 512#32
  let v27 : BitVec 32 := Scalar.muli arg19 c512_i32
  let c0_i32_14 : BitVec 32 := 0#32
  let v28 : BitVec 32 := Scalar.addi v27 c0_i32_14
  v28
def k0_off3 (k0_t1 : Fin k0_t1_loop.trips) (c0_i32_14 : BitVec 32) : Fin 2 → Nat :=
  let c0_i32_7 : BitVec 32 := 0#32
  let c1_i32 : BitVec 32 := 1#32
  let arg19 : BitVec 32 := Scf.iv c0_i32_7 c1_i32 k0_t1
  let c512_i32 : BitVec 32 := 512#32
  let v27 : BitVec 32 := Scalar.muli arg19 c512_i32
  let v28 : BitVec 32 := Scalar.addi v27 c0_i32_14
  let v29 : BitVec 32 := v28
  let v30 : Index := Scalar.indexCast v29
  let c0_15 : Index := 0#32
  ![v30.toNat, 0]
def k0_mult2 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_22 : BitVec 32 := 512#32
  let v46 : BitVec 32 := Scalar.muli arg19 c512_i32_22
  let c0_i32_23 : BitVec 32 := 0#32
  let v47 : BitVec 32 := Scalar.addi v46 c0_i32_23
  v47
def k0_off4 (k0_t1 : Fin k0_t1_loop.trips) (c0_i32_23 : BitVec 32) : Fin 2 → Nat :=
  let c0_i32_7 : BitVec 32 := 0#32
  let c1_i32 : BitVec 32 := 1#32
  let arg19 : BitVec 32 := Scf.iv c0_i32_7 c1_i32 k0_t1
  let c512_i32_22 : BitVec 32 := 512#32
  let v46 : BitVec 32 := Scalar.muli arg19 c512_i32_22
  let v47 : BitVec 32 := Scalar.addi v46 c0_i32_23
  let v48 : BitVec 32 := v47
  let v49 : Index := Scalar.indexCast v48
  let c128 : Index := 128#32
  ![v49.toNat, 128]
def k0_mult3 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_29 : BitVec 32 := 512#32
  let v65 : BitVec 32 := Scalar.muli arg19 c512_i32_29
  let c0_i32_30 : BitVec 32 := 0#32
  let v66 : BitVec 32 := Scalar.addi v65 c0_i32_30
  v66
def k0_off5 (k0_t1 : Fin k0_t1_loop.trips) (c0_i32_30 : BitVec 32) : Fin 2 → Nat :=
  let c0_i32_7 : BitVec 32 := 0#32
  let c1_i32 : BitVec 32 := 1#32
  let arg19 : BitVec 32 := Scf.iv c0_i32_7 c1_i32 k0_t1
  let c512_i32_29 : BitVec 32 := 512#32
  let v65 : BitVec 32 := Scalar.muli arg19 c512_i32_29
  let v66 : BitVec 32 := Scalar.addi v65 c0_i32_30
  let v67 : BitVec 32 := v66
  let v68 : Index := Scalar.indexCast v67
  let c256 : Index := 256#32
  ![v68.toNat, 256]
def k0_mult4 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_36 : BitVec 32 := 512#32
  let v84 : BitVec 32 := Scalar.muli arg19 c512_i32_36
  let c0_i32_37 : BitVec 32 := 0#32
  let v85 : BitVec 32 := Scalar.addi v84 c0_i32_37
  v85
def k0_off6 (k0_t1 : Fin k0_t1_loop.trips) (c0_i32_37 : BitVec 32) : Fin 2 → Nat :=
  let c0_i32_7 : BitVec 32 := 0#32
  let c1_i32 : BitVec 32 := 1#32
  let arg19 : BitVec 32 := Scf.iv c0_i32_7 c1_i32 k0_t1
  let c512_i32_36 : BitVec 32 := 512#32
  let v84 : BitVec 32 := Scalar.muli arg19 c512_i32_36
  let v85 : BitVec 32 := Scalar.addi v84 c0_i32_37
  let v86 : BitVec 32 := v85
  let v87 : Index := Scalar.indexCast v86
  let c384 : Index := 384#32
  ![v87.toNat, 384]
def k0_mult5 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_44 : BitVec 32 := 512#32
  let v103 : BitVec 32 := Scalar.muli arg19 c512_i32_44
  let c128_i32 : BitVec 32 := 128#32
  let v104 : BitVec 32 := Scalar.addi v103 c128_i32
  v104
def k0_mult6 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_52 : BitVec 32 := 512#32
  let v122 : BitVec 32 := Scalar.muli arg19 c512_i32_52
  let c128_i32_53 : BitVec 32 := 128#32
  let v123 : BitVec 32 := Scalar.addi v122 c128_i32_53
  v123
def k0_mult7 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_61 : BitVec 32 := 512#32
  let v141 : BitVec 32 := Scalar.muli arg19 c512_i32_61
  let c128_i32_62 : BitVec 32 := 128#32
  let v142 : BitVec 32 := Scalar.addi v141 c128_i32_62
  v142
def k0_mult8 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_70 : BitVec 32 := 512#32
  let v160 : BitVec 32 := Scalar.muli arg19 c512_i32_70
  let c128_i32_71 : BitVec 32 := 128#32
  let v161 : BitVec 32 := Scalar.addi v160 c128_i32_71
  v161
def k0_mult9 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_79 : BitVec 32 := 512#32
  let v179 : BitVec 32 := Scalar.muli arg19 c512_i32_79
  let c256_i32 : BitVec 32 := 256#32
  let v180 : BitVec 32 := Scalar.addi v179 c256_i32
  v180
def k0_mult10 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_87 : BitVec 32 := 512#32
  let v198 : BitVec 32 := Scalar.muli arg19 c512_i32_87
  let c256_i32_88 : BitVec 32 := 256#32
  let v199 : BitVec 32 := Scalar.addi v198 c256_i32_88
  v199
def k0_mult11 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_96 : BitVec 32 := 512#32
  let v217 : BitVec 32 := Scalar.muli arg19 c512_i32_96
  let c256_i32_97 : BitVec 32 := 256#32
  let v218 : BitVec 32 := Scalar.addi v217 c256_i32_97
  v218
def k0_mult12 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_105 : BitVec 32 := 512#32
  let v236 : BitVec 32 := Scalar.muli arg19 c512_i32_105
  let c256_i32_106 : BitVec 32 := 256#32
  let v237 : BitVec 32 := Scalar.addi v236 c256_i32_106
  v237
def k0_mult13 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_114 : BitVec 32 := 512#32
  let v255 : BitVec 32 := Scalar.muli arg19 c512_i32_114
  let c384_i32 : BitVec 32 := 384#32
  let v256 : BitVec 32 := Scalar.addi v255 c384_i32
  v256
def k0_mult14 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_122 : BitVec 32 := 512#32
  let v274 : BitVec 32 := Scalar.muli arg19 c512_i32_122
  let c384_i32_123 : BitVec 32 := 384#32
  let v275 : BitVec 32 := Scalar.addi v274 c384_i32_123
  v275
def k0_mult15 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_131 : BitVec 32 := 512#32
  let v293 : BitVec 32 := Scalar.muli arg19 c512_i32_131
  let c384_i32_132 : BitVec 32 := 384#32
  let v294 : BitVec 32 := Scalar.addi v293 c384_i32_132
  v294
def k0_mult16 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_140 : BitVec 32 := 512#32
  let v312 : BitVec 32 := Scalar.muli arg19 c512_i32_140
  let c384_i32_141 : BitVec 32 := 384#32
  let v313 : BitVec 32 := Scalar.addi v312 c384_i32_141
  v313
def k0_off7 (i : grid0.Coords) : Fin 3 → Nat :=
  let arg1 : BitVec 32 := BitVec.ofNat 32 (i 1).val
  let v322 : Index := Scalar.indexCast arg1
  let c0_145 : Index := 0#32
  let c0_146 : Index := 0#32
  ![v322.toNat, 0, 0]
def k0_mult17 (k0_t1 : Fin k0_t1_loop.trips) : BitVec 32 :=
  let c0_i32_7 : BitVec 32 := 0#32
  let c1_i32 : BitVec 32 := 1#32
  let arg19 : BitVec 32 := Scf.iv c0_i32_7 c1_i32 k0_t1
  let c512_i32_147 : BitVec 32 := 512#32
  let v325 : BitVec 32 := Scalar.muli arg19 c512_i32_147
  v325
def k0_off8 (k0_t1 : Fin k0_t1_loop.trips) : Fin 2 → Nat :=
  let c0_148 : Index := 0#32
  let c0_i32_7 : BitVec 32 := 0#32
  let c1_i32 : BitVec 32 := 1#32
  let arg19 : BitVec 32 := Scf.iv c0_i32_7 c1_i32 k0_t1
  let c512_i32_147 : BitVec 32 := 512#32
  let v325 : BitVec 32 := Scalar.muli arg19 c512_i32_147
  let v326 : BitVec 32 := v325
  let v327 : Index := Scalar.indexCast v326
  ![0, v327.toNat]
def k0_cond2 (i : grid0.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_9 : BitVec 32 := 0#32
  let v17 : BitVec 1 := Scalar.cmpi .ne v16 c0_i32_9
  v17

def k0_off9 (i : grid0.Coords) : Fin 1 → Nat :=
  let arg0 : BitVec 32 := BitVec.ofNat 32 (i 0).val
  let v18 : Index := Scalar.indexCast arg0
  ![v18.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S20x76 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x384x9728 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x76x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S9728x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x384x2560 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2560 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x2560 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S5x384x2560 : Shape := ⟨3, ![5, 384, 2560]⟩
abbrev S5x384x9728 : Shape := ⟨3, ![5, 384, 9728]⟩
abbrev S5x384x76 : Shape := ⟨3, ![5, 384, 76]⟩
abbrev S9728x2560 : Shape := ⟨2, ![9728, 2560]⟩
abbrev S76x20 : Shape := ⟨2, ![76, 20]⟩
abbrev S2560 : Shape := ⟨1, ![2560]⟩
abbrev S5 : Shape := ⟨1, ![5]⟩
abbrev S5x2560 : Shape := ⟨2, ![5, 2560]⟩
abbrev S5x384x76x128 : Shape := ⟨4, ![5, 384, 76, 128]⟩
abbrev S5x384x76x1 : Shape := ⟨4, ![5, 384, 76, 1]⟩
abbrev S76x128x20x128 : Shape := ⟨4, ![76, 128, 20, 128]⟩
abbrev S76x1x20x1 : Shape := ⟨4, ![76, 1, 20, 1]⟩
abbrev S1x1x2560 : Shape := ⟨3, ![1, 1, 2560]⟩
abbrev S5x384 : Shape := ⟨2, ![5, 384]⟩
abbrev S5x384x1 : Shape := ⟨3, ![5, 384, 1]⟩
abbrev S1x384 : Shape := ⟨2, ![1, 384]⟩
abbrev S384 : Shape := ⟨1, ![384]⟩
abbrev S5x1 : Shape := ⟨2, ![5, 1]⟩

abbrev nBuf : Space → Nat
  | .hbm => 13
  | .vmem => 13
  | .smem => 0
  | _ => 0

abbrev bufTy : (tb : Table) → Fin (tcTables nBuf tb) → BufTy
  | .hbm, ⟨0, _⟩ => ⟨S5x384x2560, .bf16⟩
  | .hbm, ⟨1, _⟩ => ⟨S5x384x9728, .fp8e4m3⟩
  | .hbm, ⟨2, _⟩ => ⟨S5x384x76, .f32⟩
  | .hbm, ⟨3, _⟩ => ⟨S9728x2560, .fp8e4m3⟩
  | .hbm, ⟨4, _⟩ => ⟨S76x20, .f32⟩
  | .hbm, ⟨5, _⟩ => ⟨S2560, .f32⟩
  | .hbm, ⟨6, _⟩ => ⟨S2560, .f32⟩
  | .hbm, ⟨7, _⟩ => ⟨S2560, .f32⟩
  | .hbm, ⟨8, _⟩ => ⟨S5, .i32⟩
  | .hbm, ⟨9, _⟩ => ⟨S5x384x2560, .f32⟩
  | .hbm, ⟨10, _⟩ => ⟨S5x2560, .f32⟩
  | .hbm, ⟨11, _⟩ => ⟨S5x2560, .i8⟩
  | .hbm, ⟨12, _⟩ => ⟨S5, .f32⟩
  | .local _ .vmem, ⟨0, _⟩ => ⟨S5x384x2560, .bf16⟩
  | .local _ .vmem, ⟨1, _⟩ => ⟨S5x384x9728, .fp8e4m3⟩
  | .local _ .vmem, ⟨2, _⟩ => ⟨S5x384x76, .f32⟩
  | .local _ .vmem, ⟨3, _⟩ => ⟨S9728x2560, .fp8e4m3⟩
  | .local _ .vmem, ⟨4, _⟩ => ⟨S76x20, .f32⟩
  | .local _ .vmem, ⟨5, _⟩ => ⟨S2560, .f32⟩
  | .local _ .vmem, ⟨6, _⟩ => ⟨S2560, .f32⟩
  | .local _ .vmem, ⟨7, _⟩ => ⟨S2560, .f32⟩
  | .local _ .vmem, ⟨8, _⟩ => ⟨S5, .i32⟩
  | .local _ .vmem, ⟨9, _⟩ => ⟨S5x384x2560, .f32⟩
  | .local _ .vmem, ⟨10, _⟩ => ⟨S5x2560, .f32⟩
  | .local _ .vmem, ⟨11, _⟩ => ⟨S5x2560, .i8⟩
  | .local _ .vmem, ⟨12, _⟩ => ⟨S5, .f32⟩
  | _, _ => ⟨S5x384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S5x384x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384x9728 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x384x76 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9728x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S76x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5x384x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5x2560 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.BodyK.lean ====
module

public import proofs.«01_k».proof.Proof.Gen.Kernel.Loops
public import proofs.«01_k».proof.Proof.Gen.Kernel.Frame
public import Idealize.ShloMosaic.Lib.Exec
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The point is the first of its batch row. -/
abbrev cond0 (i : grid0.Coords) : Prop := (Scalar.cmpi .ne (Scalar.extui (Scalar.cmpi .eq (BitVec.ofNat 32 (i 1).val) 0#32)) 0#32) = 1#1
/-- The point is the last of its batch row. -/
abbrev cond1 (i : grid0.Coords) : Prop := k0_cond2 i = 1#1
/-- The first points of the rows are those ≡ 0 (mod 5). -/
theorem hcond0 : ∀ t : Fin cfg0.N, cond0 (grid0.coords t) ↔ t.val % 5 = 0 := by
  decide +kernel
/-- The last points of the rows are those ≡ 4 (mod 5). -/
theorem hcond1 : ∀ t : Fin cfg0.N, cond1 (grid0.coords t) ↔ t.val % 5 = 4 := by
  decide +kernel

set_option maxHeartbeats 4000000 in
/-- The body at the first point of a row: it runs, the inputs stay, every other buffer ends at some contents. -/
theorem body_first (c : Dev nD) (i : grid0.Coords) (arg2 : Memref sig .tc .smem S5 .i32) (harg2 : arg2.IsWhole) (arg3 : Memref sig .tc .smem S20x76 .f32) (harg3 : arg3.IsWhole) (arg4 : Memref sig .tc .vmem S1x384x9728 .fp8e4m3) (harg4 : arg4.IsWhole) (arg5 : Memref sig .tc .vmem S1x76x384 .f32) (harg5 : arg5.IsWhole) (arg6 : Memref sig .tc .vmem S9728x512 .fp8e4m3) (harg6 : arg6.IsWhole) (arg7 : Memref sig .tc .vmem S1x384x512 .bf16) (harg7 : arg7.IsWhole) (arg8 : Memref sig .tc .vmem S1x512 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S1x384x2560 .f32) (harg11 : arg11.IsWhole) (arg12 : Memref sig .tc .vmem S1x1x2560 .f32) (harg12 : arg12.IsWhole) (arg13 : Memref sig .tc .vmem S1x1x2560 .i8) (harg13 : arg13.IsWhole) (arg14 : Memref sig .tc .vmem S1x1x128 .f32) (harg14 : arg14.IsWhole) (arg15 : Memref sig .tc .vmem S384x9728 .bf16) (harg15 : arg15.IsWhole) (arg16 : Memref sig .tc .vmem S512x512 .bf16) (harg16 : arg16.IsWhole) (arg17 : Memref sig .tc .vmem S384x128 .f32) (harg17 : arg17.IsWhole) (arg18 : Memref sig .tc .vmem S5x384x512 .f32) (harg18 : arg18.IsWhole)
    (hc0 : cond0 i) (hc1 : ¬cond1 i) (x0 : Vec F S5 .i32) (x1 : Vec F S20x76 .f32) (x2 : Vec F S1x384x9728 .fp8e4m3) (x3 : Vec F S1x76x384 .f32) (x4 : Vec F S9728x512 .fp8e4m3) (x5 : Vec F S1x384x512 .bf16) (x6 : Vec F S1x512 .f32) (x7 : Vec F S1x2560 .f32) (x8 : Vec F S1x2560 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_down_proj_ln_pool i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    simp only [cc0_down_proj_ln_pool_eq_skeleton]; unfold cc0_down_proj_ln_pool_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

set_option maxHeartbeats 4000000 in
/-- The body at a middle point of a row: it runs, the inputs stay, every other buffer ends at some contents. -/
theorem body_mid (c : Dev nD) (i : grid0.Coords) (arg2 : Memref sig .tc .smem S5 .i32) (harg2 : arg2.IsWhole) (arg3 : Memref sig .tc .smem S20x76 .f32) (harg3 : arg3.IsWhole) (arg4 : Memref sig .tc .vmem S1x384x9728 .fp8e4m3) (harg4 : arg4.IsWhole) (arg5 : Memref sig .tc .vmem S1x76x384 .f32) (harg5 : arg5.IsWhole) (arg6 : Memref sig .tc .vmem S9728x512 .fp8e4m3) (harg6 : arg6.IsWhole) (arg7 : Memref sig .tc .vmem S1x384x512 .bf16) (harg7 : arg7.IsWhole) (arg8 : Memref sig .tc .vmem S1x512 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S1x384x2560 .f32) (harg11 : arg11.IsWhole) (arg12 : Memref sig .tc .vmem S1x1x2560 .f32) (harg12 : arg12.IsWhole) (arg13 : Memref sig .tc .vmem S1x1x2560 .i8) (harg13 : arg13.IsWhole) (arg14 : Memref sig .tc .vmem S1x1x128 .f32) (harg14 : arg14.IsWhole) (arg15 : Memref sig .tc .vmem S384x9728 .bf16) (harg15 : arg15.IsWhole) (arg16 : Memref sig .tc .vmem S512x512 .bf16) (harg16 : arg16.IsWhole) (arg17 : Memref sig .tc .vmem S384x128 .f32) (harg17 : arg17.IsWhole) (arg18 : Memref sig .tc .vmem S5x384x512 .f32) (harg18 : arg18.IsWhole)
    (hc0 : ¬cond0 i) (hc1 : ¬cond1 i) (x0 : Vec F S5 .i32) (x1 : Vec F S20x76 .f32) (x2 : Vec F S1x384x9728 .fp8e4m3) (x3 : Vec F S1x76x384 .f32) (x4 : Vec F S9728x512 .fp8e4m3) (x5 : Vec F S1x384x512 .bf16) (x6 : Vec F S1x512 .f32) (x7 : Vec F S1x2560 .f32) (x8 : Vec F S1x2560 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_down_proj_ln_pool i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    simp only [cc0_down_proj_ln_pool_eq_skeleton]; unfold cc0_down_proj_ln_pool_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

set_option maxHeartbeats 4000000 in
/-- The body at the last point of a row: it runs, the inputs stay, every other buffer ends at some contents. -/
theorem body_last (c : Dev nD) (i : grid0.Coords) (arg2 : Memref sig .tc .smem S5 .i32) (harg2 : arg2.IsWhole) (arg3 : Memref sig .tc .smem S20x76 .f32) (harg3 : arg3.IsWhole) (arg4 : Memref sig .tc .vmem S1x384x9728 .fp8e4m3) (harg4 : arg4.IsWhole) (arg5 : Memref sig .tc .vmem S1x76x384 .f32) (harg5 : arg5.IsWhole) (arg6 : Memref sig .tc .vmem S9728x512 .fp8e4m3) (harg6 : arg6.IsWhole) (arg7 : Memref sig .tc .vmem S1x384x512 .bf16) (harg7 : arg7.IsWhole) (arg8 : Memref sig .tc .vmem S1x512 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S1x384x2560 .f32) (harg11 : arg11.IsWhole) (arg12 : Memref sig .tc .vmem S1x1x2560 .f32) (harg12 : arg12.IsWhole) (arg13 : Memref sig .tc .vmem S1x1x2560 .i8) (harg13 : arg13.IsWhole) (arg14 : Memref sig .tc .vmem S1x1x128 .f32) (harg14 : arg14.IsWhole) (arg15 : Memref sig .tc .vmem S384x9728 .bf16) (harg15 : arg15.IsWhole) (arg16 : Memref sig .tc .vmem S512x512 .bf16) (harg16 : arg16.IsWhole) (arg17 : Memref sig .tc .vmem S384x128 .f32) (harg17 : arg17.IsWhole) (arg18 : Memref sig .tc .vmem S5x384x512 .f32) (harg18 : arg18.IsWhole)
    (hc0 : ¬cond0 i) (hc1 : cond1 i) (x0 : Vec F S5 .i32) (x1 : Vec F S20x76 .f32) (x2 : Vec F S1x384x9728 .fp8e4m3) (x3 : Vec F S1x76x384 .f32) (x4 : Vec F S9728x512 .fp8e4m3) (x5 : Vec F S1x384x512 .bf16) (x6 : Vec F S1x512 .f32) (x7 : Vec F S1x2560 .f32) (x8 : Vec F S1x2560 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_down_proj_ln_pool i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    simp only [cc0_down_proj_ln_pool_eq_skeleton]; unfold cc0_down_proj_ln_pool_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Cert.Kernel.Hand

end
-- ==== Proof.FrameK.lean ====
module

public import proofs.«01_k».proof.Proof.Gen.Kernel.Loops
public import proofs.«01_k».proof.Proof.Gen.Kernel.Frame
public import proofs.«01_k».proof.Proof.BodyK
public import Idealize.ShloMosaic.Lib.Exec
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the host lines after the region write. -/
def T0 : Finset (Ref sig .tc) := {main_v6, main_v7, main_v8, main_v9}

/-- The host lines after the region write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The launch's invariant with the four scratch buffers as memrefs owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The four outputs, of which the frame names nothing. -/
def forgets0 : Fin 13 → Bool := fun w => decide (9 ≤ w.val)

/-- The proof data: each input at its block, the outputs unnamed, every scratch at some contents throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the contents the region finds. -/
theorem A_eq (c : Dev nD) (w : Fin cfg0.W) : (dats m 0 c).A w = V m c (Pipeline.arrRef spec0 w) := by
  dsimp only [dats]

/-- The body leaves input 0 at its block, -/
theorem after0_0 (c : Dev nD) (t : Fin cfg0.N) : (dats m 0 c).after 0 t = iblk m c 0 t := by dsimp only [dats]
/-- and finds it there. -/
theorem before0_0 (c : Dev nD) (t : Fin cfg0.N) (d) : (dats m 0 c).before 0 t d = iblk m c 0 t :=
  before0_0_of m (dats m 0 c) (A_eq m c 0) (after0_0 m c) t d
/-- The body leaves input 1 at its block, -/
theorem after0_1 (c : Dev nD) (t : Fin cfg0.N) : (dats m 0 c).after 1 t = iblk m c 1 t := by dsimp only [dats]
/-- and finds it there. -/
theorem before0_1 (c : Dev nD) (t : Fin cfg0.N) (d) : (dats m 0 c).before 1 t d = iblk m c 1 t :=
  before0_1_of m (dats m 0 c) (A_eq m c 1) (after0_1 m c) t d
/-- The body leaves input 2 at its block, -/
theorem after0_2 (c : Dev nD) (t : Fin cfg0.N) : (dats m 0 c).after 2 t = iblk m c 2 t := by dsimp only [dats]
/-- and finds it there. -/
theorem before0_2 (c : Dev nD) (t : Fin cfg0.N) (d) : (dats m 0 c).before 2 t d = iblk m c 2 t :=
  before0_2_of m (dats m 0 c) (A_eq m c 2) (after0_2 m c) t d
/-- The body leaves input 3 at its block, -/
theorem after0_3 (c : Dev nD) (t : Fin cfg0.N) : (dats m 0 c).after 3 t = iblk m c 3 t := by dsimp only [dats]
/-- and finds it there. -/
theorem before0_3 (c : Dev nD) (t : Fin cfg0.N) (d) : (dats m 0 c).before 3 t d = iblk m c 3 t :=
  before0_3_of m (dats m 0 c) (A_eq m c 3) (after0_3 m c) t d
/-- The body leaves input 4 at its block, -/
theorem after0_4 (c : Dev nD) (t : Fin cfg0.N) : (dats m 0 c).after 4 t = iblk m c 4 t := by dsimp only [dats]
/-- and finds it there. -/
theorem before0_4 (c : Dev nD) (t : Fin cfg0.N) (d) : (dats m 0 c).before 4 t d = iblk m c 4 t :=
  before0_4_of m (dats m 0 c) (A_eq m c 4) (after0_4 m c) t d
/-- The body leaves input 5 at its block, -/
theorem after0_5 (c : Dev nD) (t : Fin cfg0.N) : (dats m 0 c).after 5 t = iblk m c 5 t := by dsimp only [dats]
/-- and finds it there. -/
theorem before0_5 (c : Dev nD) (t : Fin cfg0.N) (d) : (dats m 0 c).before 5 t d = iblk m c 5 t :=
  before0_5_of m (dats m 0 c) (A_eq m c 5) (after0_5 m c) t d
/-- The body leaves input 6 at its block, -/
theorem after0_6 (c : Dev nD) (t : Fin cfg0.N) : (dats m 0 c).after 6 t = iblk m c 6 t := by dsimp only [dats]
/-- and finds it there. -/
theorem before0_6 (c : Dev nD) (t : Fin cfg0.N) (d) : (dats m 0 c).before 6 t d = iblk m c 6 t :=
  before0_6_of m (dats m 0 c) (A_eq m c 6) (after0_6 m c) t d
/-- The body leaves input 7 at its block, -/
theorem after0_7 (c : Dev nD) (t : Fin cfg0.N) : (dats m 0 c).after 7 t = iblk m c 7 t := by dsimp only [dats]
/-- and finds it there. -/
theorem before0_7 (c : Dev nD) (t : Fin cfg0.N) (d) : (dats m 0 c).before 7 t d = iblk m c 7 t :=
  before0_7_of m (dats m 0 c) (A_eq m c 7) (after0_7 m c) t d
/-- The body leaves input 8 at its block, -/
theorem after0_8 (c : Dev nD) (t : Fin cfg0.N) : (dats m 0 c).after 8 t = iblk m c 8 t := by dsimp only [dats]
/-- and finds it there. -/
theorem before0_8 (c : Dev nD) (t : Fin cfg0.N) (d) : (dats m 0 c).before 8 t d = iblk m c 8 t :=
  before0_8_of m (dats m 0 c) (A_eq m c 8) (after0_8 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- An input the body leaves at its block is returned exactly so. -/
theorem leaves_in (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4800000 in
/-- The body at any point, by which of the three runs the point takes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [leaves_in m c t 0 rfl, after0_0, leaves_in m c t 1 rfl, after0_1, leaves_in m c t 2 rfl, after0_2, leaves_in m c t 3 rfl, after0_3, leaves_in m c t 4 rfl, after0_4, leaves_in m c t 5 rfl, after0_5, leaves_in m c t 6 rfl, after0_6, leaves_in m c t 7 rfl, after0_7, leaves_in m c t 8 rfl, after0_8]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  by_cases h0 : t.val % 5 = 0
  · have h1 : ¬ t.val % 5 = 4 := by omega
    iapply (body_first c (grid0.coords t) _ _ _ _ _ _ _ _ _ _ _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    iintro ⟨H0, H1, H2, H3, H4, H5, H6, H7, H8, H9, H10, H11, H12, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · by_cases h1 : t.val % 5 = 4
    · iapply (body_last c (grid0.coords t) _ _ _ _ _ _ _ _ _ _ _ _ _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [S0]; · iexact S0
      isplitl [S1]; · iexact S1
      isplitl [S2]; · iexact S2
      isplitl [S3]; · iexact S3
      iintro ⟨H0, H1, H2, H3, H4, H5, H6, H7, H8, H9, H10, H11, H12, S0, S1, S2, S3⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iapply (body_mid c (grid0.coords t) _ _ _ _ _ _ _ _ _ _ _ _ _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [S0]; · iexact S0
      isplitl [S1]; · iexact S1
      isplitl [S2]; · iexact S2
      isplitl [S3]; · iexact S3
      iintro ⟨H0, H1, H2, H3, H4, H5, H6, H7, H8, H9, H10, H11, H12, S0, S1, S2, S3⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: the whole program runs, and every semaphore counter ends at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- The frame claim at any element type: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePostR.arr_in (h.1) c 5 rfl).trans ((A_eq m c 5).trans (V_main_arg0 m c)),
    (Pipeline.RDat.FramePostR.arr_in (h.1) c 2 rfl).trans ((A_eq m c 2).trans (V_main_arg1 m c)),
    ((h.1 c).2 main_arg2 (Finset.mem_sdiff.mpr ⟨Pipeline.mem_restRefs_of main_arg2 (by decide) (by decide), by decide⟩)).trans (V_main_arg2 m c),
    (Pipeline.RDat.FramePostR.arr_in (h.1) c 4 rfl).trans ((A_eq m c 4).trans (V_main_arg3 m c)),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c),
    (Pipeline.RDat.FramePostR.arr_in (h.1) c 0 rfl).trans ((A_eq m c 0).trans (V_main_arg8 m c))⟩, h.2⟩) (run_main_quiescent m ρ)

end Cert.Kernel.Hand

end
-- ==== Proof.BodyKI.lean ====
module

public import proofs.«01_k».proof.Proof.Gen.KernelIdeal.Loops
public import proofs.«01_k».proof.Proof.Gen.KernelIdeal.Frame
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The point is the first of its batch row. -/
abbrev cond0 (i : grid0.Coords) : Prop := (Scalar.cmpi .ne (Scalar.extui (Scalar.cmpi .eq (BitVec.ofNat 32 (i 1).val) 0#32)) 0#32) = 1#1
/-- The point is the last of its batch row. -/
abbrev cond1 (i : grid0.Coords) : Prop := k0_cond2 i = 1#1
/-- The first points of the rows are those ≡ 0 (mod 5). -/
theorem hcond0 : ∀ t : Fin cfg0.N, cond0 (grid0.coords t) ↔ t.val % 5 = 0 := by
  decide +kernel
/-- The last points of the rows are those ≡ 4 (mod 5). -/
theorem hcond1 : ∀ t : Fin cfg0.N, cond1 (grid0.coords t) ↔ t.val % 5 = 4 := by
  decide +kernel

set_option maxHeartbeats 4000000 in
/-- The body at the first point of a row: it runs, the inputs stay, every other buffer ends at some contents. -/
theorem body_first (c : Dev nD) (i : grid0.Coords) (arg2 : Memref sig .tc .smem S5 .i32) (harg2 : arg2.IsWhole) (arg3 : Memref sig .tc .smem S20x76 .f32) (harg3 : arg3.IsWhole) (arg4 : Memref sig .tc .vmem S1x384x9728 .fp8e4m3) (harg4 : arg4.IsWhole) (arg5 : Memref sig .tc .vmem S1x76x384 .f32) (harg5 : arg5.IsWhole) (arg6 : Memref sig .tc .vmem S9728x512 .fp8e4m3) (harg6 : arg6.IsWhole) (arg7 : Memref sig .tc .vmem S1x384x512 .bf16) (harg7 : arg7.IsWhole) (arg8 : Memref sig .tc .vmem S1x512 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S1x384x2560 .f32) (harg11 : arg11.IsWhole) (arg12 : Memref sig .tc .vmem S1x1x2560 .f32) (harg12 : arg12.IsWhole) (arg13 : Memref sig .tc .vmem S1x1x2560 .i8) (harg13 : arg13.IsWhole) (arg14 : Memref sig .tc .vmem S1x1x128 .f32) (harg14 : arg14.IsWhole) (arg15 : Memref sig .tc .vmem S384x9728 .bf16) (harg15 : arg15.IsWhole) (arg16 : Memref sig .tc .vmem S512x512 .bf16) (harg16 : arg16.IsWhole) (arg17 : Memref sig .tc .vmem S384x128 .f32) (harg17 : arg17.IsWhole) (arg18 : Memref sig .tc .vmem S5x384x512 .f32) (harg18 : arg18.IsWhole)
    (hc0 : cond0 i) (hc1 : ¬cond1 i) (x0 : Vec F S5 .i32) (x1 : Vec F S20x76 .f32) (x2 : Vec F S1x384x9728 .fp8e4m3) (x3 : Vec F S1x76x384 .f32) (x4 : Vec F S9728x512 .fp8e4m3) (x5 : Vec F S1x384x512 .bf16) (x6 : Vec F S1x512 .f32) (x7 : Vec F S1x2560 .f32) (x8 : Vec F S1x2560 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_down_proj_ln_pool i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    simp only [cc0_down_proj_ln_pool_eq_skeleton]; unfold cc0_down_proj_ln_pool_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

set_option maxHeartbeats 4000000 in
/-- The body at a middle point of a row: it runs, the inputs stay, every other buffer ends at some contents. -/
theorem body_mid (c : Dev nD) (i : grid0.Coords) (arg2 : Memref sig .tc .smem S5 .i32) (harg2 : arg2.IsWhole) (arg3 : Memref sig .tc .smem S20x76 .f32) (harg3 : arg3.IsWhole) (arg4 : Memref sig .tc .vmem S1x384x9728 .fp8e4m3) (harg4 : arg4.IsWhole) (arg5 : Memref sig .tc .vmem S1x76x384 .f32) (harg5 : arg5.IsWhole) (arg6 : Memref sig .tc .vmem S9728x512 .fp8e4m3) (harg6 : arg6.IsWhole) (arg7 : Memref sig .tc .vmem S1x384x512 .bf16) (harg7 : arg7.IsWhole) (arg8 : Memref sig .tc .vmem S1x512 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S1x384x2560 .f32) (harg11 : arg11.IsWhole) (arg12 : Memref sig .tc .vmem S1x1x2560 .f32) (harg12 : arg12.IsWhole) (arg13 : Memref sig .tc .vmem S1x1x2560 .i8) (harg13 : arg13.IsWhole) (arg14 : Memref sig .tc .vmem S1x1x128 .f32) (harg14 : arg14.IsWhole) (arg15 : Memref sig .tc .vmem S384x9728 .bf16) (harg15 : arg15.IsWhole) (arg16 : Memref sig .tc .vmem S512x512 .bf16) (harg16 : arg16.IsWhole) (arg17 : Memref sig .tc .vmem S384x128 .f32) (harg17 : arg17.IsWhole) (arg18 : Memref sig .tc .vmem S5x384x512 .f32) (harg18 : arg18.IsWhole)
    (hc0 : ¬cond0 i) (hc1 : ¬cond1 i) (x0 : Vec F S5 .i32) (x1 : Vec F S20x76 .f32) (x2 : Vec F S1x384x9728 .fp8e4m3) (x3 : Vec F S1x76x384 .f32) (x4 : Vec F S9728x512 .fp8e4m3) (x5 : Vec F S1x384x512 .bf16) (x6 : Vec F S1x512 .f32) (x7 : Vec F S1x2560 .f32) (x8 : Vec F S1x2560 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_down_proj_ln_pool i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    simp only [cc0_down_proj_ln_pool_eq_skeleton]; unfold cc0_down_proj_ln_pool_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

set_option maxHeartbeats 4000000 in
/-- The body at the last point of a row: it runs, the inputs stay, every other buffer ends at some contents. -/
theorem body_last (c : Dev nD) (i : grid0.Coords) (arg2 : Memref sig .tc .smem S5 .i32) (harg2 : arg2.IsWhole) (arg3 : Memref sig .tc .smem S20x76 .f32) (harg3 : arg3.IsWhole) (arg4 : Memref sig .tc .vmem S1x384x9728 .fp8e4m3) (harg4 : arg4.IsWhole) (arg5 : Memref sig .tc .vmem S1x76x384 .f32) (harg5 : arg5.IsWhole) (arg6 : Memref sig .tc .vmem S9728x512 .fp8e4m3) (harg6 : arg6.IsWhole) (arg7 : Memref sig .tc .vmem S1x384x512 .bf16) (harg7 : arg7.IsWhole) (arg8 : Memref sig .tc .vmem S1x512 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S1x384x2560 .f32) (harg11 : arg11.IsWhole) (arg12 : Memref sig .tc .vmem S1x1x2560 .f32) (harg12 : arg12.IsWhole) (arg13 : Memref sig .tc .vmem S1x1x2560 .i8) (harg13 : arg13.IsWhole) (arg14 : Memref sig .tc .vmem S1x1x128 .f32) (harg14 : arg14.IsWhole) (arg15 : Memref sig .tc .vmem S384x9728 .bf16) (harg15 : arg15.IsWhole) (arg16 : Memref sig .tc .vmem S512x512 .bf16) (harg16 : arg16.IsWhole) (arg17 : Memref sig .tc .vmem S384x128 .f32) (harg17 : arg17.IsWhole) (arg18 : Memref sig .tc .vmem S5x384x512 .f32) (harg18 : arg18.IsWhole)
    (hc0 : ¬cond0 i) (hc1 : cond1 i) (x0 : Vec F S5 .i32) (x1 : Vec F S20x76 .f32) (x2 : Vec F S1x384x9728 .fp8e4m3) (x3 : Vec F S1x76x384 .f32) (x4 : Vec F S9728x512 .fp8e4m3) (x5 : Vec F S1x384x512 .bf16) (x6 : Vec F S1x512 .f32) (x7 : Vec F S1x2560 .f32) (x8 : Vec F S1x2560 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_down_proj_ln_pool i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    simp only [cc0_down_proj_ln_pool_eq_skeleton]; unfold cc0_down_proj_ln_pool_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Cert.KernelIdeal.Hand

end
-- ==== Proof.FrameKI.lean ====
module

public import proofs.«01_k».proof.Proof.Gen.KernelIdeal.Loops
public import proofs.«01_k».proof.Proof.Gen.KernelIdeal.Frame
public import proofs.«01_k».proof.Proof.BodyKI
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the host lines after the region write. -/
def T0 : Finset (Ref sig .tc) := {main_v6, main_v7, main_v8, main_v9}

/-- The host lines after the region write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The launch's invariant with the four scratch buffers as memrefs owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The four outputs, of which the frame names nothing. -/
def forgets0 : Fin 13 → Bool := fun w => decide (9 ≤ w.val)

/-- The proof data: each input at its block, the outputs unnamed, every scratch at some contents throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the contents the region finds. -/
theorem A_eq (c : Dev nD) (w : Fin cfg0.W) : (dats m 0 c).A w = V m c (Pipeline.arrRef spec0 w) := by
  dsimp only [dats]

/-- The body leaves input 0 at its block, -/
theorem after0_0 (c : Dev nD) (t : Fin cfg0.N) : (dats m 0 c).after 0 t = iblk m c 0 t := by dsimp only [dats]
/-- and finds it there. -/
theorem before0_0 (c : Dev nD) (t : Fin cfg0.N) (d) : (dats m 0 c).before 0 t d = iblk m c 0 t :=
  before0_0_of m (dats m 0 c) (A_eq m c 0) (after0_0 m c) t d
/-- The body leaves input 1 at its block, -/
theorem after0_1 (c : Dev nD) (t : Fin cfg0.N) : (dats m 0 c).after 1 t = iblk m c 1 t := by dsimp only [dats]
/-- and finds it there. -/
theorem before0_1 (c : Dev nD) (t : Fin cfg0.N) (d) : (dats m 0 c).before 1 t d = iblk m c 1 t :=
  before0_1_of m (dats m 0 c) (A_eq m c 1) (after0_1 m c) t d
/-- The body leaves input 2 at its block, -/
theorem after0_2 (c : Dev nD) (t : Fin cfg0.N) : (dats m 0 c).after 2 t = iblk m c 2 t := by dsimp only [dats]
/-- and finds it there. -/
theorem before0_2 (c : Dev nD) (t : Fin cfg0.N) (d) : (dats m 0 c).before 2 t d = iblk m c 2 t :=
  before0_2_of m (dats m 0 c) (A_eq m c 2) (after0_2 m c) t d
/-- The body leaves input 3 at its block, -/
theorem after0_3 (c : Dev nD) (t : Fin cfg0.N) : (dats m 0 c).after 3 t = iblk m c 3 t := by dsimp only [dats]
/-- and finds it there. -/
theorem before0_3 (c : Dev nD) (t : Fin cfg0.N) (d) : (dats m 0 c).before 3 t d = iblk m c 3 t :=
  before0_3_of m (dats m 0 c) (A_eq m c 3) (after0_3 m c) t d
/-- The body leaves input 4 at its block, -/
theorem after0_4 (c : Dev nD) (t : Fin cfg0.N) : (dats m 0 c).after 4 t = iblk m c 4 t := by dsimp only [dats]
/-- and finds it there. -/
theorem before0_4 (c : Dev nD) (t : Fin cfg0.N) (d) : (dats m 0 c).before 4 t d = iblk m c 4 t :=
  before0_4_of m (dats m 0 c) (A_eq m c 4) (after0_4 m c) t d
/-- The body leaves input 5 at its block, -/
theorem after0_5 (c : Dev nD) (t : Fin cfg0.N) : (dats m 0 c).after 5 t = iblk m c 5 t := by dsimp only [dats]
/-- and finds it there. -/
theorem before0_5 (c : Dev nD) (t : Fin cfg0.N) (d) : (dats m 0 c).before 5 t d = iblk m c 5 t :=
  before0_5_of m (dats m 0 c) (A_eq m c 5) (after0_5 m c) t d
/-- The body leaves input 6 at its block, -/
theorem after0_6 (c : Dev nD) (t : Fin cfg0.N) : (dats m 0 c).after 6 t = iblk m c 6 t := by dsimp only [dats]
/-- and finds it there. -/
theorem before0_6 (c : Dev nD) (t : Fin cfg0.N) (d) : (dats m 0 c).before 6 t d = iblk m c 6 t :=
  before0_6_of m (dats m 0 c) (A_eq m c 6) (after0_6 m c) t d
/-- The body leaves input 7 at its block, -/
theorem after0_7 (c : Dev nD) (t : Fin cfg0.N) : (dats m 0 c).after 7 t = iblk m c 7 t := by dsimp only [dats]
/-- and finds it there. -/
theorem before0_7 (c : Dev nD) (t : Fin cfg0.N) (d) : (dats m 0 c).before 7 t d = iblk m c 7 t :=
  before0_7_of m (dats m 0 c) (A_eq m c 7) (after0_7 m c) t d
/-- The body leaves input 8 at its block, -/
theorem after0_8 (c : Dev nD) (t : Fin cfg0.N) : (dats m 0 c).after 8 t = iblk m c 8 t := by dsimp only [dats]
/-- and finds it there. -/
theorem before0_8 (c : Dev nD) (t : Fin cfg0.N) (d) : (dats m 0 c).before 8 t d = iblk m c 8 t :=
  before0_8_of m (dats m 0 c) (A_eq m c 8) (after0_8 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- An input the body leaves at its block is returned exactly so. -/
theorem leaves_in (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4800000 in
/-- The body at any point, by which of the three runs the point takes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [leaves_in m c t 0 rfl, after0_0, leaves_in m c t 1 rfl, after0_1, leaves_in m c t 2 rfl, after0_2, leaves_in m c t 3 rfl, after0_3, leaves_in m c t 4 rfl, after0_4, leaves_in m c t 5 rfl, after0_5, leaves_in m c t 6 rfl, after0_6, leaves_in m c t 7 rfl, after0_7, leaves_in m c t 8 rfl, after0_8]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  by_cases h0 : t.val % 5 = 0
  · have h1 : ¬ t.val % 5 = 4 := by omega
    iapply (body_first c (grid0.coords t) _ _ _ _ _ _ _ _ _ _ _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    iintro ⟨H0, H1, H2, H3, H4, H5, H6, H7, H8, H9, H10, H11, H12, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · by_cases h1 : t.val % 5 = 4
    · iapply (body_last c (grid0.coords t) _ _ _ _ _ _ _ _ _ _ _ _ _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [S0]; · iexact S0
      isplitl [S1]; · iexact S1
      isplitl [S2]; · iexact S2
      isplitl [S3]; · iexact S3
      iintro ⟨H0, H1, H2, H3, H4, H5, H6, H7, H8, H9, H10, H11, H12, S0, S1, S2, S3⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iapply (body_mid c (grid0.coords t) _ _ _ _ _ _ _ _ _ _ _ _ _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [S0]; · iexact S0
      isplitl [S1]; · iexact S1
      isplitl [S2]; · iexact S2
      isplitl [S3]; · iexact S3
      iintro ⟨H0, H1, H2, H3, H4, H5, H6, H7, H8, H9, H10, H11, H12, S0, S1, S2, S3⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: the whole program runs, and every semaphore counter ends at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- The frame claim at any element type: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePostR.arr_in (h.1) c 5 rfl).trans ((A_eq m c 5).trans (V_main_arg0 m c)),
    (Pipeline.RDat.FramePostR.arr_in (h.1) c 2 rfl).trans ((A_eq m c 2).trans (V_main_arg1 m c)),
    ((h.1 c).2 main_arg2 (Finset.mem_sdiff.mpr ⟨Pipeline.mem_restRefs_of main_arg2 (by decide) (by decide), by decide⟩)).trans (V_main_arg2 m c),
    (Pipeline.RDat.FramePostR.arr_in (h.1) c 4 rfl).trans ((A_eq m c 4).trans (V_main_arg3 m c)),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c),
    (Pipeline.RDat.FramePostR.arr_in (h.1) c 0 rfl).trans ((A_eq m c 0).trans (V_main_arg8 m c))⟩, h.2⟩) (run_main_quiescent m ρ)

end Cert.KernelIdeal.Hand

end
-- ==== Proof.TripKI.lean ====
module

public import proofs.«01_k».proof.Proof.Gen.KernelIdeal.Loops
public import proofs.«01_k».proof.Proof.Gen.KernelIdeal.Frame
public import Idealize.ShloMosaic.Lib.Exec
public import Idealize.ShloMosaic.Lib.Pipeline.Value
public import Idealize.ShloMosaic.Lib.Pipeline.ValueKit.Tiles
public import Idealize.ShloMosaic.Lib.Pointwise.Index
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The dequantised weight block and one accumulation step -/

/-- The dequantised 512 × 512 weight block of column panel `n` and row chunk `k`: codes times the bf16 scale of their
    128 × 128 block (`ws` holds the scales transposed). -/
def WD (n k : ℕ) (hn : n < 5) (hk : k < 19) (ws : Vec F S20x76 .f32) (w : Vec F S9728x512 .fp8e4m3) : Vec F S512x512 .bf16 :=
  mulf (extf .bf16 (fun y : S512x512.Idx => w (ix2 (n0 := 9728) (n1 := 512) ⟨512 * k + (y 0).val, by have : (y 0).val < 512 := (y 0).isLt; omega⟩ (y 1))) bitsLt_fp8e4m3_bf16)
    (truncf .bf16 (fun y : S512x512.Idx => ws (ix2 (n0 := 20) (n1 := 76) ⟨4 * n + (y 1).val / 128, by have : (y 1).val < 512 := (y 1).isLt; omega⟩
      ⟨4 * k + (y 0).val / 128, by have : (y 0).val < 512 := (y 0).isLt; omega⟩)) bitsLt_bf16_f32)

/-- One weight block's payload: the codes `w` times the broadcast bf16 scale `s`. -/
def wPay (s : Elt F .f32) (w : Vec F S128x128 .fp8e4m3) : Vec F S128x128 .bf16 :=
  shapeCast S128x128 (mulf (extf .bf16 w bitsLt_fp8e4m3_bf16) (truncf .bf16 (broadcast S128x128 s) bitsLt_bf16_f32)) shapeCasts_S128x128_S128x128

/-- Pieces that all agree with one function `G`. -/
def Agree {S : Shape} {e : EltTy} (G : S.Idx → Elt F e) (L : List (View.Piece (Elt F) S e)) : Prop :=
  ∀ p ∈ L, ∀ x : p.1.shape.Idx, p.2 x = G (p.1.emb x)

/-- No piece disagrees. -/
theorem Agree.nil {S : Shape} {e : EltTy} (G : S.Idx → Elt F e) : Agree (F := F) G [] := fun _ h => absurd h List.not_mem_nil

/-- A piece that agrees, before pieces that agree. -/
theorem Agree.cons {S : Shape} {e : EltTy} {G : S.Idx → Elt F e} {r : Rect S} {w : r.shape.Idx → Elt F e}
    {L : List (View.Piece (Elt F) S e)} (h : ∀ x, w x = G (r.emb x)) (hL : Agree (F := F) G L) : Agree (F := F) G (⟨r, w⟩ :: L) := by
  intro p hp
  rcases List.mem_cons.mp hp with rfl | hp
  · exact h
  · exact hL p hp

/-- The block of scales' row and column offsets, at a trip. -/
theorem off2_eq (i : grid0.Coords) (k : Fin k0_t1_loop.trips) (a b : Fin 4) :
    k0_off2 i k (BitVec.ofNat 32 a) (BitVec.ofNat 32 b) = ![4 * (i 1).val + a.val, 4 * k.val + b.val] := by
  have h : ∀ (n : Fin 5) (k : Fin 19) (a b : Fin 4),
      (![BitVec.toNat (Scalar.indexCast (Scalar.addi (Scalar.muli (BitVec.ofNat 32 n.val) 4#32) (BitVec.ofNat 32 a))), BitVec.toNat (Scalar.indexCast (Scalar.addi (Scalar.muli (Scf.iv (0#32 : BitVec 32) 1#32 k.val) 4#32) (BitVec.ofNat 32 b)))] : Fin 2 → ℕ)
        = ![4 * n.val + a.val, 4 * k.val + b.val] := by decide +kernel
  exact h (i 1) k a b

/-- The weight block's row and column offsets, at a trip. -/
theorem off36_eq (k : Fin k0_t1_loop.trips) (b : Fin 4) :
    k0_off3 k (BitVec.ofNat 32 (128 * b.val)) = ![512 * k.val + 128 * b.val, 0]
    ∧ k0_off4 k (BitVec.ofNat 32 (128 * b.val)) = ![512 * k.val + 128 * b.val, 128]
    ∧ k0_off5 k (BitVec.ofNat 32 (128 * b.val)) = ![512 * k.val + 128 * b.val, 256]
    ∧ k0_off6 k (BitVec.ofNat 32 (128 * b.val)) = ![512 * k.val + 128 * b.val, 384] := by
  revert k b; decide +kernel

/-- The panel row and the chunk of columns a trip works on. -/
theorem off8_eq (k : Fin k0_t1_loop.trips) : k0_off8 k = ![0, 512 * k.val] := by revert k; decide +kernel
/-- The panel row and the chunk of columns a trip works on. -/
theorem off7_eq (i : grid0.Coords) : k0_off7 i = ![(i 1).val, 0, 0] := by
  have h : ∀ n : Fin 5, (![BitVec.toNat (Scalar.indexCast (BitVec.ofNat 32 n.val)), 0, 0] : Fin 3 → ℕ) = ![n.val, 0, 0] := by decide +kernel
  exact h (i 1)

/-- One stored weight block agrees with `WD` on its rectangle. -/
theorem wd_piece (n k : ℕ) (hn : n < 5) (hk : k < 19) (a b : ℕ) (ha : a < 4) (hb : b < 4)
    (arg3 : Memref sig .tc .smem S20x76 .f32) (arg6 : Memref sig .tc .vmem S9728x512 .fp8e4m3)
    (X3 : BufTy.Contents (Elt F) arg3.view.ty) (X6 : BufTy.Contents (Elt F) arg6.view.ty)
    {o3 : Fin 2 → ℕ} (h3 : o3 = ![4 * n + a, 4 * k + b]) {o6 : Fin 2 → ℕ} (h6 : o6 = ![512 * k + 128 * b, 128 * a])
    {oP : Fin 2 → ℕ} (hP : oP = ![128 * b, 128 * a]) (i3 i6 iP) (hpos)
    (x : (Rect.unit (s := S512x512) oP S128x128.size iP).shape.Idx) :
    wPay (View.readAt (Elt F) arg3.view (Rect.unit (s := S20x76) o3 S1x1.size i3).toLoadRect X3 (Shape.Idx.first hpos))
      (View.readAt (Elt F) arg6.view (Rect.unit (s := S9728x512) o6 S128x128.size i6).toLoadRect X6) x
    = WD n k hn hk (arg3.view.read (Elt F) X3) (arg6.view.read (Elt F) X6) ((Rect.unit (s := S512x512) oP S128x128.size iP).emb x) := by
  subst h3 h6 hP
  unfold wPay WD
  rw [shapeCast_self]
  have hx0 : (x 0).val < 128 := (x 0).isLt
  have hx1 : (x 1).val < 128 := (x 1).isLt
  rw [View.readAt_eq_ld, View.readAt_eq_ld]
  show FloatOps.mulf _ _ = FloatOps.mulf _ _
  congr 1
  · show FloatOps.extf _ _ _ = FloatOps.extf _ _ _
    congr 1
    refine View.ld_unit_apply_of _ _ _ _ _ _ ?_
    intro d; match d with
    | ⟨0, _⟩ => show 512 * k + (128 * b + 1 * (x 0).val) = _ + (x 0).val; simp; omega
    | ⟨1, _⟩ => show 128 * a + 1 * (x 1).val = 128 * a + (x 1).val; omega
  · show FloatOps.truncf _ _ _ = FloatOps.truncf _ _ _
    congr 1
    refine View.ld_unit_apply_of _ _ _ _ _ _ ?_
    intro d; match d with
    | ⟨0, _⟩ => show 4 * n + (128 * a + 1 * (x 1).val) / 128 = 4 * n + a + 0; omega
    | ⟨1, _⟩ => show 4 * k + (128 * b + 1 * (x 0).val) / 128 = 4 * k + b + 0; omega

/-- A covered load of the whole shape after pieces that agree with `G` reads `G`. -/
theorem readCov_agree {S : Shape} {e : EltTy} {sp : Space} (v : View sig .tc sp S e) (G : S.Idx → Elt F e) (L : List (View.Piece (Elt F) S e))
    {off : Fin S.rank → ℕ} (h : off = fun _ => 0) (inb : ∀ a, off a + S.size a ≤ S.size a)
    (hcov : ∀ y, ∃ p ∈ L, y ∈ p.1.set) (hA : Agree (F := F) G L) :
    v.readCov L (Rect.unit off S.size inb).toLoadRect = G := by
  rw [show (v.readCov L (Rect.unit off S.size inb).toLoadRect) = View.ld (View.canon L) (Rect.unit off S.size inb) from View.readCov_eq_canon_ld v L _ hcov,
    View.ld_unit_zero h]
  exact funext fun y => View.canon_apply_of_pieces G L hA y (hcov y)

/-- The zero offset of a matrix. -/
theorem hz2 : (![0, 0] : Fin 2 → ℕ) = fun _ => 0 := funext fun a => by fin_cases a <;> rfl
/-- The zero offset of a stack. -/
theorem hz3 : (![0, 0, 0] : Fin 3 → ℕ) = fun _ => 0 := funext fun a => by fin_cases a <;> rfl

/-- One accumulation step of column panel `n`: chunk `k` of the activations times the dequantised weight block, added. -/
def stepA (n k : ℕ) (hn : n < 5) (hk : k < 19) (ws : Vec F S20x76 .f32) (w : Vec F S9728x512 .fp8e4m3) (hd : Vec F S384x9728 .bf16)
    (a : FVec F S384x512 .f32) : FVec F S384x512 .f32 :=
  addf a (matmul dot_S384x512_S512x512_S384x512_1_0_0_1_n_n none
    (fun y : S384x512.Idx => hd (ix2 (n0 := 384) (n1 := 9728) (y 0) ⟨512 * k + (y 1).val, by have : (y 1).val < 512 := (y 1).isLt; omega⟩))
    (WD n k hn hk ws w) (constant S384x512 .f32 0x00000000#32))

/-- Row `n` of the five panels. -/
def rowOf (n : Fin 5) (Y : Vec F S5x384x512 .f32) : FVec F S384x512 .f32 := fun y => Y (ix3 (n0 := 5) (n1 := 384) (n2 := 512) n (y 0) (y 1))

/-- The five panels with row `n` replaced. -/
def setRow (n : Fin 5) (A : FVec F S384x512 .f32) (Y : Vec F S5x384x512 .f32) : Vec F S5x384x512 .f32 :=
  fun y => if (y 0).val = n.val then A (ix2 (n0 := 384) (n1 := 512) (y 1) (y 2)) else Y y

/-- Reading the row just set. -/
theorem rowOf_setRow (n : Fin 5) (A : FVec F S384x512 .f32) (Y : Vec F S5x384x512 .f32) : rowOf n (setRow n A Y) = A := by
  funext y
  show (if n.val = n.val then A (ix2 (y 0) (y 1)) else _) = A y
  rw [if_pos rfl]; exact congrArg A (ix2_eta y)

/-- Setting a row twice. -/
theorem setRow_setRow (n : Fin 5) (A B : FVec F S384x512 .f32) (Y : Vec F S5x384x512 .f32) : setRow n A (setRow n B Y) = setRow n A Y := by
  funext y; unfold setRow; split <;> rfl

/-- Setting a row to what it holds. -/
theorem setRow_rowOf (n : Fin 5) (Y : Vec F S5x384x512 .f32) : setRow n (rowOf n Y) Y = Y := by
  funext y; unfold setRow; split
  · rename_i h
    have h' : n = y 0 := Fin.ext h.symm
    unfold rowOf; subst h'; exact congrArg Y (ix3_eta y)
  · rfl

/-- A store of a whole row leaves the panels with that row replaced. -/
theorem read_write_row (arg18 : Memref sig .tc .vmem S5x384x512 .f32) (f : BufTy.Contents (Elt F) arg18.view.ty) (n : Fin 5)
    {o : Fin 3 → ℕ} (ho : o = ![n.val, 0, 0]) (inb) (A : FVec F S384x512 .f32) :
    arg18.view.read (Elt F) (arg18.view.writes (Elt F) f [⟨Rect.unit (s := S5x384x512) o S1x384x512.size inb, shapeCast S1x384x512 A shapeCasts_S384x512_S1x384x512⟩])
      = setRow n A (arg18.view.read (Elt F) f) := by
  subst ho
  funext y
  unfold setRow
  split
  · rename_i h
    have he : y = (Rect.unit (s := S5x384x512) ![n.val, 0, 0] S1x384x512.size inb).emb (ix3 (n0 := 1) (n1 := 384) (n2 := 512) 0 (y 1) (y 2)) := by
      funext d; apply Fin.ext
      match d with
      | ⟨0, _⟩ => show (y 0).val = n.val + 1 * 0; omega
      | ⟨1, _⟩ => show (y 1).val = 0 + 1 * (y 1).val; omega
      | ⟨2, _⟩ => show (y 2).val = 0 + 1 * (y 2).val; omega
    conv_lhs => rw [he]
    rw [View.read_writes_cons_emb]
    exact (shapeCast_addUnit_apply ![384, 512] A _ _).trans (congrArg A (funext fun d => match d with | ⟨0, _⟩ => rfl | ⟨1, _⟩ => rfl))
  · rename_i h
    refine View.read_writes_apply_of_forall_not_mem _ _ _ _ ?_
    intro p hp
    rw [List.mem_singleton] at hp; subst hp
    rw [Rect.mem_set_unit]
    intro hh
    have := hh 0
    apply h
    have h1 : n.val ≤ (y 0).val := this.1
    have h2 : (y 0).val < n.val + 1 := this.2
    omega

/-- Reading a whole row. -/
theorem readAt_row (arg18 : Memref sig .tc .vmem S5x384x512 .f32) (f : BufTy.Contents (Elt F) arg18.view.ty) (n : Fin 5)
    {o : Fin 3 → ℕ} (ho : o = ![n.val, 0, 0]) (inb) :
    shapeCast S384x512 (View.readAt (Elt F) arg18.view (Rect.unit (s := S5x384x512) o S1x384x512.size inb).toLoadRect f) shapeCasts_S1x384x512_S384x512
      = rowOf n (arg18.view.read (Elt F) f) := by
  subst ho
  funext y
  refine (shapeCast_dropUnit_apply ![384, 512] _ _ _).trans ?_
  rw [View.readAt_eq_ld]
  refine View.ld_unit_apply_of _ _ _ _ _ _ ?_
  intro d; match d with
  | ⟨0, _⟩ => rfl
  | ⟨1, _⟩ => show (y 0).val = 0 + (y 0).val; omega
  | ⟨2, _⟩ => show (y 1).val = 0 + (y 1).val; omega

set_option maxHeartbeats 4000000 in
/-- What one trip writes into `arg18`: the panel row plus the chunk's product. -/
theorem trip_list (c : Dev nD) (i : grid0.Coords) (arg2 : Memref sig .tc .smem S5 .i32) (harg2 : arg2.IsWhole) (arg3 : Memref sig .tc .smem S20x76 .f32) (harg3 : arg3.IsWhole) (arg4 : Memref sig .tc .vmem S1x384x9728 .fp8e4m3) (harg4 : arg4.IsWhole) (arg5 : Memref sig .tc .vmem S1x76x384 .f32) (harg5 : arg5.IsWhole) (arg6 : Memref sig .tc .vmem S9728x512 .fp8e4m3) (harg6 : arg6.IsWhole) (arg7 : Memref sig .tc .vmem S1x384x512 .bf16) (harg7 : arg7.IsWhole) (arg8 : Memref sig .tc .vmem S1x512 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S1x384x2560 .f32) (harg11 : arg11.IsWhole) (arg12 : Memref sig .tc .vmem S1x1x2560 .f32) (harg12 : arg12.IsWhole) (arg13 : Memref sig .tc .vmem S1x1x2560 .i8) (harg13 : arg13.IsWhole) (arg14 : Memref sig .tc .vmem S1x1x128 .f32) (harg14 : arg14.IsWhole) (arg15 : Memref sig .tc .vmem S384x9728 .bf16) (harg15 : arg15.IsWhole) (arg16 : Memref sig .tc .vmem S512x512 .bf16) (harg16 : arg16.IsWhole) (arg17 : Memref sig .tc .vmem S384x128 .f32) (harg17 : arg17.IsWhole) (arg18 : Memref sig .tc .vmem S5x384x512 .f32) (harg18 : arg18.IsWhole) (arg1 : BitVec 32)
  (X3 : BufTy.Contents (Elt F) arg3.view.ty) (X6 : BufTy.Contents (Elt F) arg6.view.ty) (X15 : BufTy.Contents (Elt F) arg15.view.ty) (k : Fin k0_t1_loop.trips)
  (f16 : BufTy.Contents (Elt F) arg16.view.ty) (f18 : BufTy.Contents (Elt F) arg18.view.ty) (hk : k.val < 19) :
   (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 X3 X6 X15 k).2.1 f16 f18
    = [⟨Rect.unit (s := S5x384x512) (k0_off7 i) S1x384x512.size (k0_off7_inb i),
        k0_pay3 (shapeCast S384x512 (View.readAt (Elt F) arg18.view (Rect.unit (s := S5x384x512) (k0_off7 i) S1x384x512.size (k0_off7_inb i)).toLoadRect f18) shapeCasts_S1x384x512_S384x512)
          (View.readAt (Elt F) arg15.view (Rect.unit (s := S384x9728) (k0_off8 k) S384x512.size (k0_off8_inb k)).toLoadRect X15)
          (WD (i 1).val k.val (i 1).isLt hk (arg3.view.read (Elt F) X3) (arg6.view.read (Elt F) X6)) (constant S384x512 .f32 0x00000000#32)⟩] := by
  unfold trip_k0_t1
  dsimp only
  sl_unfold_words
  refine congrArg (fun z => [(⟨Rect.unit (s := S5x384x512) (k0_off7 i) S1x384x512.size (k0_off7_inb i), k0_pay3 _ _ z _⟩ : View.Piece (Elt F) S5x384x512 .f32)]) ?_
  refine readCov_agree _ _ _ hz2 _ ?_ ?_
  · exact View.cover_of_tiledL _ S128x128.size (by sl_kernel_rfl)
  ·
    refine Agree.cons (wd_piece (i 1).val k.val (i 1).isLt hk 3 3 (by decide) (by decide) arg3 arg6 X3 X6 (off2_eq i k 3 3) (off36_eq k 3).2.2.2 rfl _ _ _ _) ?_
    refine Agree.cons (wd_piece (i 1).val k.val (i 1).isLt hk 2 3 (by decide) (by decide) arg3 arg6 X3 X6 (off2_eq i k 2 3) (off36_eq k 3).2.2.1 rfl _ _ _ _) ?_
    refine Agree.cons (wd_piece (i 1).val k.val (i 1).isLt hk 1 3 (by decide) (by decide) arg3 arg6 X3 X6 (off2_eq i k 1 3) (off36_eq k 3).2.1 rfl _ _ _ _) ?_
    refine Agree.cons (wd_piece (i 1).val k.val (i 1).isLt hk 0 3 (by decide) (by decide) arg3 arg6 X3 X6 (off2_eq i k 0 3) (off36_eq k 3).1 rfl _ _ _ _) ?_
    refine Agree.cons (wd_piece (i 1).val k.val (i 1).isLt hk 3 2 (by decide) (by decide) arg3 arg6 X3 X6 (off2_eq i k 3 2) (off36_eq k 2).2.2.2 rfl _ _ _ _) ?_
    refine Agree.cons (wd_piece (i 1).val k.val (i 1).isLt hk 2 2 (by decide) (by decide) arg3 arg6 X3 X6 (off2_eq i k 2 2) (off36_eq k 2).2.2.1 rfl _ _ _ _) ?_
    refine Agree.cons (wd_piece (i 1).val k.val (i 1).isLt hk 1 2 (by decide) (by decide) arg3 arg6 X3 X6 (off2_eq i k 1 2) (off36_eq k 2).2.1 rfl _ _ _ _) ?_
    refine Agree.cons (wd_piece (i 1).val k.val (i 1).isLt hk 0 2 (by decide) (by decide) arg3 arg6 X3 X6 (off2_eq i k 0 2) (off36_eq k 2).1 rfl _ _ _ _) ?_
    refine Agree.cons (wd_piece (i 1).val k.val (i 1).isLt hk 3 1 (by decide) (by decide) arg3 arg6 X3 X6 (off2_eq i k 3 1) (off36_eq k 1).2.2.2 rfl _ _ _ _) ?_
    refine Agree.cons (wd_piece (i 1).val k.val (i 1).isLt hk 2 1 (by decide) (by decide) arg3 arg6 X3 X6 (off2_eq i k 2 1) (off36_eq k 1).2.2.1 rfl _ _ _ _) ?_
    refine Agree.cons (wd_piece (i 1).val k.val (i 1).isLt hk 1 1 (by decide) (by decide) arg3 arg6 X3 X6 (off2_eq i k 1 1) (off36_eq k 1).2.1 rfl _ _ _ _) ?_
    refine Agree.cons (wd_piece (i 1).val k.val (i 1).isLt hk 0 1 (by decide) (by decide) arg3 arg6 X3 X6 (off2_eq i k 0 1) (off36_eq k 1).1 rfl _ _ _ _) ?_
    refine Agree.cons (wd_piece (i 1).val k.val (i 1).isLt hk 3 0 (by decide) (by decide) arg3 arg6 X3 X6 (off2_eq i k 3 0) (off36_eq k 0).2.2.2 rfl _ _ _ _) ?_
    refine Agree.cons (wd_piece (i 1).val k.val (i 1).isLt hk 2 0 (by decide) (by decide) arg3 arg6 X3 X6 (off2_eq i k 2 0) (off36_eq k 0).2.2.1 rfl _ _ _ _) ?_
    refine Agree.cons (wd_piece (i 1).val k.val (i 1).isLt hk 1 0 (by decide) (by decide) arg3 arg6 X3 X6 (off2_eq i k 1 0) (off36_eq k 0).2.1 rfl _ _ _ _) ?_
    refine Agree.cons (wd_piece (i 1).val k.val (i 1).isLt hk 0 0 (by decide) (by decide) arg3 arg6 X3 X6 (off2_eq i k 0 0) (off36_eq k 0).1 rfl _ _ _ _) ?_
    exact Agree.nil _

end Cert.KernelIdeal.Hand

end
-- ==== Proof.LoopKI.lean ====
module

public import proofs.«01_k».proof.Proof.TripKI
public import proofs.«01_k».proof.Proof.Gen.KernelIdeal.Frame
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The nineteen accumulation steps -/

/-- The grid point's column panel. -/
def nOf (i : grid0.Coords) : Fin 5 := i 1
/-- The loop runs nineteen trips. -/
theorem hT {k : ℕ} (h : k < 19) : k < k0_t1_loop.trips := h

/-- The panel after `k` accumulation steps from `A`. -/
def accPanel (n : Fin 5) (ws : Vec F S20x76 .f32) (w : Vec F S9728x512 .fp8e4m3) (hd : Vec F S384x9728 .bf16) (A : FVec F S384x512 .f32) : ℕ → FVec F S384x512 .f32
  | 0 => A
  | k + 1 => if h : k < 19 then stepA n.val k n.isLt h ws w hd (accPanel n ws w hd A k) else accPanel n ws w hd A k

/-- No chunk added. -/
theorem accPanel_zero (n : Fin 5) (ws : Vec F S20x76 .f32) (w : Vec F S9728x512 .fp8e4m3) (hd : Vec F S384x9728 .bf16) (A : FVec F S384x512 .f32) :
    accPanel n ws w hd A 0 = A := rfl
/-- One more chunk added. -/
theorem accPanel_succ (n : Fin 5) (ws : Vec F S20x76 .f32) (w : Vec F S9728x512 .fp8e4m3) (hd : Vec F S384x9728 .bf16) (A : FVec F S384x512 .f32) (k : ℕ) :
    accPanel n ws w hd A (k + 1) = if h : k < 19 then stepA n.val k n.isLt h ws w hd (accPanel n ws w hd A k) else accPanel n ws w hd A k := rfl

/-- The contents of the panels' buffer after `k` trips of the loop from contents `G`. -/
def accBuf (i : grid0.Coords) (arg3 : Memref sig .tc .smem S20x76 .f32) (arg6 : Memref sig .tc .vmem S9728x512 .fp8e4m3) (arg15 : Memref sig .tc .vmem S384x9728 .bf16) (arg18 : Memref sig .tc .vmem S5x384x512 .f32)
    (X3 : BufTy.Contents (Elt F) arg3.view.ty) (X6 : BufTy.Contents (Elt F) arg6.view.ty) (X15 : BufTy.Contents (Elt F) arg15.view.ty) (G : BufTy.Contents (Elt F) arg18.view.ty) : ℕ → BufTy.Contents (Elt F) arg18.view.ty
  | 0 => G
  | k + 1 => if h : k < 19 then
      arg18.view.writes (Elt F) (accBuf i arg3 arg6 arg15 arg18 X3 X6 X15 G k)
        [⟨Rect.unit (s := S5x384x512) (k0_off7 i) S1x384x512.size (k0_off7_inb i),
          k0_pay3 (shapeCast S384x512 (View.readAt (Elt F) arg18.view (Rect.unit (s := S5x384x512) (k0_off7 i) S1x384x512.size (k0_off7_inb i)).toLoadRect (accBuf i arg3 arg6 arg15 arg18 X3 X6 X15 G k)) shapeCasts_S1x384x512_S384x512)
            (View.readAt (Elt F) arg15.view (Rect.unit (s := S384x9728) (k0_off8 ⟨k, hT h⟩) S384x512.size (k0_off8_inb ⟨k, hT h⟩)).toLoadRect X15)
            (WD (nOf i).val k (nOf i).isLt h (arg3.view.read (Elt F) X3) (arg6.view.read (Elt F) X6)) (constant S384x512 .f32 0x00000000#32)⟩]
    else accBuf i arg3 arg6 arg15 arg18 X3 X6 X15 G k

/-- What those contents read: the point's row holds the accumulated panel, the other rows are as before. -/
theorem read_accBuf (i : grid0.Coords) (arg3 : Memref sig .tc .smem S20x76 .f32) (arg6 : Memref sig .tc .vmem S9728x512 .fp8e4m3) (arg15 : Memref sig .tc .vmem S384x9728 .bf16) (arg18 : Memref sig .tc .vmem S5x384x512 .f32)
    (X3 : BufTy.Contents (Elt F) arg3.view.ty) (X6 : BufTy.Contents (Elt F) arg6.view.ty) (X15 : BufTy.Contents (Elt F) arg15.view.ty) (G : BufTy.Contents (Elt F) arg18.view.ty) : ∀ k : ℕ,
    arg18.view.read (Elt F) (accBuf i arg3 arg6 arg15 arg18 X3 X6 X15 G k)
      = setRow (nOf i) (accPanel (nOf i) (arg3.view.read (Elt F) X3) (arg6.view.read (Elt F) X6) (arg15.view.read (Elt F) X15) (rowOf (nOf i) (arg18.view.read (Elt F) G)) k) (arg18.view.read (Elt F) G)
  | 0 => by rw [accBuf, accPanel_zero]; exact (setRow_rowOf _ _).symm
  | k + 1 => by
    have ih := read_accBuf i arg3 arg6 arg15 arg18 X3 X6 X15 G k
    rw [accBuf, accPanel_succ]
    split
    · rename_i h
      have hp : k0_pay3 (shapeCast S384x512 (View.readAt (Elt F) arg18.view (Rect.unit (s := S5x384x512) (k0_off7 i) S1x384x512.size (k0_off7_inb i)).toLoadRect (accBuf i arg3 arg6 arg15 arg18 X3 X6 X15 G k)) shapeCasts_S1x384x512_S384x512)
            (View.readAt (Elt F) arg15.view (Rect.unit (s := S384x9728) (k0_off8 ⟨k, hT h⟩) S384x512.size (k0_off8_inb ⟨k, hT h⟩)).toLoadRect X15)
            (WD (nOf i).val k (nOf i).isLt h (arg3.view.read (Elt F) X3) (arg6.view.read (Elt F) X6)) (constant S384x512 .f32 0x00000000#32)
          = shapeCast S1x384x512 (stepA (nOf i).val k (nOf i).isLt h (arg3.view.read (Elt F) X3) (arg6.view.read (Elt F) X6) (arg15.view.read (Elt F) X15)
              (accPanel (nOf i) (arg3.view.read (Elt F) X3) (arg6.view.read (Elt F) X6) (arg15.view.read (Elt F) X15) (rowOf (nOf i) (arg18.view.read (Elt F) G)) k)) shapeCasts_S384x512_S1x384x512 := by
        rw [readAt_row arg18 _ (nOf i) (off7_eq i), ih, rowOf_setRow]
        unfold k0_pay3 stepA
        dsimp only
        refine congrArg (fun z => shapeCast S1x384x512 (addf _ (matmul dot_S384x512_S512x512_S384x512_1_0_0_1_n_n none z _ _)) shapeCasts_S384x512_S1x384x512) ?_
        funext y
        rw [View.readAt_eq_ld]
        refine View.ld_unit_apply_of _ _ _ _ _ _ ?_
        intro d
        refine Eq.trans ?_ (congrArg (· + (y d).val) (congrFun (off8_eq ⟨k, hT h⟩) d).symm)
        match d with
        | ⟨0, _⟩ => show (y 0).val = 0 + (y 0).val; omega
        | ⟨1, _⟩ => rfl
      rw [hp, read_write_row arg18 _ (nOf i) (off7_eq i), ih, setRow_setRow]
    · exact ih

set_option warn.classDefReducibility false in
set_option maxHeartbeats 4000000 in
/-- The loop by its invariant: the panels' buffer holds `accBuf` at the trip, the weight block's scratch anything. -/
@[sl_loop] def loopVal (c : Dev nD) (E : Set ℕ) (i : grid0.Coords) (arg2 : Memref sig .tc .smem S5 .i32) (harg2 : arg2.IsWhole) (arg3 : Memref sig .tc .smem S20x76 .f32) (harg3 : arg3.IsWhole) (arg4 : Memref sig .tc .vmem S1x384x9728 .fp8e4m3) (harg4 : arg4.IsWhole) (arg5 : Memref sig .tc .vmem S1x76x384 .f32) (harg5 : arg5.IsWhole) (arg6 : Memref sig .tc .vmem S9728x512 .fp8e4m3) (harg6 : arg6.IsWhole) (arg7 : Memref sig .tc .vmem S1x384x512 .bf16) (harg7 : arg7.IsWhole) (arg8 : Memref sig .tc .vmem S1x512 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S1x384x2560 .f32) (harg11 : arg11.IsWhole) (arg12 : Memref sig .tc .vmem S1x1x2560 .f32) (harg12 : arg12.IsWhole) (arg13 : Memref sig .tc .vmem S1x1x2560 .i8) (harg13 : arg13.IsWhole) (arg14 : Memref sig .tc .vmem S1x1x128 .f32) (harg14 : arg14.IsWhole) (arg15 : Memref sig .tc .vmem S384x9728 .bf16) (harg15 : arg15.IsWhole) (arg16 : Memref sig .tc .vmem S512x512 .bf16) (harg16 : arg16.IsWhole) (arg17 : Memref sig .tc .vmem S384x128 .f32) (harg17 : arg17.IsWhole) (arg18 : Memref sig .tc .vmem S5x384x512 .f32) (harg18 : arg18.IsWhole) (arg1 : BitVec 32)
    (X3 : BufTy.Contents (Elt F) arg3.view.ty) (X6 : BufTy.Contents (Elt F) arg6.view.ty) (X15 : BufTy.Contents (Elt F) arg15.view.ty) (G18 : BufTy.Contents (Elt F) arg18.view.ty) :
    Idealize.ShloMosaic.LoopInv (M := MT nD τ sig Unit (Elt F) ℕ (UR sig nD τ) ℕ) Idealize.ShloMosaic.frame (wpE defs₀ Variants.none (c : Thread nD τ) none) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1) where
  inv := fun k _ => iprop((arg3.view.loc (c : Thread nD τ) ↦[arg3.view.set]{fullShare} X3) ∗ (arg6.view.loc (c : Thread nD τ) ↦[arg6.view.set]{fullShare} X6) ∗ (arg15.view.loc (c : Thread nD τ) ↦[arg15.view.set]{fullShare} X15)
    ∗ (∃ f, (arg16.view.loc (c : Thread nD τ) ↦[arg16.view.set]{fullShare} f)) ∗ (∃ f, (arg18.view.loc (c : Thread nD τ) ↦[arg18.view.set]{fullShare} f) ∗ ⌜f = accBuf i arg3 arg6 arg15 arg18 X3 X6 X15 G18 k⌝))
  step k acc := by
    have hk : k.val < 19 := Nat.lt_of_lt_of_le k.isLt k0_t1_abs.2.1
    iintro ⟨HR_arg3, HR_arg6, HR_arg15, ⟨%f_arg16, HW_arg16⟩, ⟨%f_arg18, HW_arg18, %h_arg18⟩⟩
    iapply (wp_wand_r Idealize.ShloMosaic.frame (wpE (defs₀ (F := F)) Variants.none (c : Thread nD τ) none) E)
    isplitl [HR_arg3 HR_arg6 HR_arg15 HW_arg16 HW_arg18]
    · iapply ((trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 X3 X6 X15 k).2.2 E f_arg16 f_arg18)
      isplitl [HR_arg3]; · iexact HR_arg3
      isplitl [HR_arg6]; · iexact HR_arg6
      isplitl [HR_arg15]; · iexact HR_arg15
      isplitl [HW_arg16]; · iexact HW_arg16
      iexact HW_arg18
    · iintro %_ ⟨HR_arg3, HR_arg6, HR_arg15, HW_arg16, HW_arg18⟩
      isplitl [HR_arg3]; · iexact HR_arg3
      isplitl [HR_arg6]; · iexact HR_arg6
      isplitl [HR_arg15]; · iexact HR_arg15
      isplitl [HW_arg16]
      · iexists _; iexact HW_arg16
      iexists _; isplitl [HW_arg18]; · iexact HW_arg18
      ipureintro
      rw [trip_list (hk := hk), h_arg18, accBuf, dif_pos hk]
      rfl

end Cert.KernelIdeal.Hand

end
-- ==== Proof.PanelKI.lean ====
module

public import proofs.«01_k».proof.Proof.LoopKI
public import proofs.«01_k».proof.Proof.Gen.KernelIdeal.Frame
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The dequantised activations of a batch row: codes times the bf16 scale of their row and block of 128 columns (`hs`
    holds the scales transposed). -/
def HD (hc : Vec F S1x384x9728 .fp8e4m3) (hs : Vec F S1x76x384 .f32) : Vec F S384x9728 .bf16 :=
  mulf (extf .bf16 (fun y : S384x9728.Idx => hc (ix3 (n0 := 1) (n1 := 384) (n2 := 9728) 0 (y 0) (y 1))) bitsLt_fp8e4m3_bf16)
    (truncf .bf16 (fun y : S384x9728.Idx => hs (ix3 (n0 := 1) (n1 := 76) (n2 := 384) 0 ⟨(y 1).val / 128, by have : (y 1).val < 9728 := (y 1).isLt; omega⟩ (y 0))) bitsLt_bf16_f32)

/-- The panel before the products: the residual input plus the bias row. -/
def xb (x : Vec F S1x384x512 .bf16) (b : Vec F S1x512 .f32) : FVec F S384x512 .f32 :=
  addf (extf .f32 (shapeCast S384x512 x shapeCasts_S1x384x512_S384x512) bitsLt_bf16_f32)
    (broadcastTo S384x512 (shapeCast S1x512 b shapeCasts_S1x512_S1x512) broadcasts_S1x512_S384x512)

/-- The first row store of a point: the panel `xb` put in its row. -/
theorem off1_eq (i : grid0.Coords) : k0_off1 i = ![(nOf i).val, 0, 0] := by
  have h : ∀ n : Fin 5, (![BitVec.toNat (Scalar.indexCast (BitVec.ofNat 32 n.val)), 0, 0] : Fin 3 → ℕ) = ![n.val, 0, 0] := by decide +kernel
  exact h (nOf i)

/-- The panels' buffer at the end of a point, whatever it held in the other rows. -/
theorem row_done (i : grid0.Coords) (arg3 : Memref sig .tc .smem S20x76 .f32) (arg6 : Memref sig .tc .vmem S9728x512 .fp8e4m3) (arg7 : Memref sig .tc .vmem S1x384x512 .bf16) (arg8 : Memref sig .tc .vmem S1x512 .f32) (arg15 : Memref sig .tc .vmem S384x9728 .bf16) (arg18 : Memref sig .tc .vmem S5x384x512 .f32)
    (X3 : BufTy.Contents (Elt F) arg3.view.ty) (X6 : BufTy.Contents (Elt F) arg6.view.ty) (X7 : BufTy.Contents (Elt F) arg7.view.ty) (X8 : BufTy.Contents (Elt F) arg8.view.ty) (X15 : BufTy.Contents (Elt F) arg15.view.ty) (G : BufTy.Contents (Elt F) arg18.view.ty)
    (inb1) (inb7) (inb8) (T : ℕ) (x1 : Vec F S20x76 .f32) (x4 : Vec F S9728x512 .fp8e4m3) (x5 : Vec F S1x384x512 .bf16) (x6 : Vec F S1x512 .f32) (hd : Vec F S384x9728 .bf16) (y : Vec F S5x384x512 .f32)
    (h3 : arg3.view.read (Elt F) X3 = x1) (h6 : arg6.view.read (Elt F) X6 = x4) (h7 : arg7.view.read (Elt F) X7 = x5) (h8 : arg8.view.read (Elt F) X8 = x6)
    (h15 : arg15.view.read (Elt F) X15 = hd) (h18 : arg18.view.read (Elt F) G = y) :
    arg18.view.read (Elt F) (accBuf i arg3 arg6 arg15 arg18 X3 X6 X15 (arg18.view.writes (Elt F) G
      [⟨Rect.unit (s := S5x384x512) (k0_off1 i) S1x384x512.size inb1, k0_pay2
        (View.readAt (Elt F) arg7.view (Rect.unit (s := S1x384x512) ![0, 0, 0] S1x384x512.size inb7).toLoadRect X7)
        (View.readAt (Elt F) arg8.view (Rect.unit (s := S1x512) ![0, 0] S1x512.size inb8).toLoadRect X8)⟩]) T)
    = setRow (nOf i) (accPanel (nOf i) x1 x4 hd (xb x5 x6) T) y := by
  subst h3 h6 h7 h8 h15 h18
  rw [read_accBuf]
  have e7 : View.readAt (Elt F) arg7.view (Rect.unit (s := S1x384x512) ![0, 0, 0] S1x384x512.size inb7).toLoadRect X7 = arg7.view.read (Elt F) X7 := by
    rw [View.readAt_eq_ld]; exact View.ld_unit_zero hz3 _ _
  have e8 : View.readAt (Elt F) arg8.view (Rect.unit (s := S1x512) ![0, 0] S1x512.size inb8).toLoadRect X8 = arg8.view.read (Elt F) X8 := by
    rw [View.readAt_eq_ld]; exact View.ld_unit_zero hz2 _ _
  rw [e7, e8]
  have hp : k0_pay2 (arg7.view.read (Elt F) X7) (arg8.view.read (Elt F) X8) = shapeCast S1x384x512 (xb (arg7.view.read (Elt F) X7) (arg8.view.read (Elt F) X8)) shapeCasts_S384x512_S1x384x512 := rfl
  rw [hp, read_write_row arg18 _ (nOf i) (off1_eq i), rowOf_setRow, setRow_setRow]

/-- One stored block of 128 columns of the dequantised activations agrees with `HD` on its rectangle. -/
theorem hd_piece {j : ℕ} (hj : j < 76) (arg4 : Memref sig .tc .vmem S1x384x9728 .fp8e4m3) (arg5 : Memref sig .tc .vmem S1x76x384 .f32) (arg17 : Memref sig .tc .vmem S384x128 .f32)
    (X4 : BufTy.Contents (Elt F) arg4.view.ty) (X5 : BufTy.Contents (Elt F) arg5.view.ty)
    {oS : Fin 2 → ℕ} (hS : oS = ![0, j]) {oC : Fin 3 → ℕ} (hC : oC = ![0, 0, 128 * j]) {oP : Fin 2 → ℕ} (hP : oP = ![0, 128 * j])
    (i5 i17 iS iC iP) (x : (Rect.unit (s := S384x9728) oP S384x128.size iP).shape.Idx) :
    shapeCast S384x128 (mulf (extf .bf16 (shapeCast S384x128 (View.readAt (Elt F) arg4.view (Rect.unit (s := S1x384x9728) oC S1x384x128.size iC).toLoadRect X4) shapeCasts_S1x384x128_S384x128) bitsLt_fp8e4m3_bf16)
      (truncf .bf16 (broadcastTo S384x128 (shapeCast S384x1 (View.readCov (Val := Elt F) arg17.view
        [⟨Rect.unit (s := S384x128) ![0, 0] S384x76.size i17, k0_pay5 (View.readAt (Elt F) arg5.view (Rect.unit (s := S1x76x384) ![0, 0, 0] S1x76x384.size i5).toLoadRect X5)⟩]
        (Rect.unit (s := S384x128) oS S384x1.size iS).toLoadRect) shapeCasts_S384x1_S384x1) broadcasts_S384x1_S384x128) bitsLt_bf16_f32)) shapeCasts_S384x128_S384x128 x
    = HD (arg4.view.read (Elt F) X4) (arg5.view.read (Elt F) X5) ((Rect.unit (s := S384x9728) oP S384x128.size iP).emb x) := by
  subst hS hC hP
  unfold HD
  rw [shapeCast_self]
  have hx0 : (x 0).val < 384 := (x 0).isLt
  have hx1 : (x 1).val < 128 := (x 1).isLt
  show FloatOps.mulf _ _ = FloatOps.mulf _ _
  congr 1
  · show FloatOps.extf _ _ _ = FloatOps.extf _ _ _
    congr 1
    refine (shapeCast_dropUnit_apply ![384, 128] _ _ _).trans ?_
    rw [View.readAt_eq_ld]
    refine View.ld_unit_apply_of _ _ _ _ _ _ ?_
    intro d; match d with
    | ⟨0, _⟩ => rfl
    | ⟨1, _⟩ => show 0 + 1 * (x 0).val = 0 + (x 0).val; omega
    | ⟨2, _⟩ => show 128 * j + 1 * (x 1).val = 128 * j + (x 1).val; omega
  · show FloatOps.truncf _ _ _ = FloatOps.truncf _ _ _
    congr 1
    refine (broadcastTo_apply _ _ _ (ix2 (n0 := 384) (n1 := 1) (x 0) 0) ?_).trans ?_
    · intro d; match d with
      | ⟨0, _⟩ => rfl
      | ⟨1, _⟩ => rfl
    refine (congrFun (shapeCast_self (s := S384x1) _ _) _).trans ?_
    have he : (Rect.unit (s := S384x128) ![0, j] S384x1.size iS).toLoadRect.idx (ix2 (n0 := 384) (n1 := 1) (x 0) 0)
        = (Rect.unit (s := S384x128) ![0, 0] S384x76.size i17).emb (ix2 (n0 := 384) (n1 := 76) (x 0) ⟨j, hj⟩) := by
      funext d; apply Fin.ext
      match d with
      | ⟨0, _⟩ => rfl
      | ⟨1, _⟩ => show j + 1 * 0 = 0 + 1 * j; omega
    show (arg17.view.read (Elt F) (arg17.view.writes (Elt F) arg17.view.junk _)) ((Rect.unit (s := S384x128) ![0, j] S384x1.size iS).toLoadRect.idx (ix2 (n0 := 384) (n1 := 1) (x 0) 0)) = _
    rw [he, View.read_writes_cons_emb]
    unfold k0_pay5
    dsimp only
    rw [shapeCast_self]
    show shapeCast S76x384 _ _ _ = _
    refine (shapeCast_dropUnit_apply ![76, 384] _ _ _).trans ?_
    rw [View.readAt_eq_ld]
    refine View.ld_unit_apply_of _ _ _ _ _ _ ?_
    intro d; match d with
    | ⟨0, _⟩ => rfl
    | ⟨1, _⟩ => show (128 * j + 1 * (x 1).val) / 128 = 0 + j; omega
    | ⟨2, _⟩ => show 0 + 1 * (x 0).val = 0 + (x 0).val; omega

/-- `hd_piece` with the block read off the column offset of the stored rectangle. -/
theorem hd_piece' (arg4 : Memref sig .tc .vmem S1x384x9728 .fp8e4m3) (arg5 : Memref sig .tc .vmem S1x76x384 .f32) (arg17 : Memref sig .tc .vmem S384x128 .f32)
    (X4 : BufTy.Contents (Elt F) arg4.view.ty) (X5 : BufTy.Contents (Elt F) arg5.view.ty)
    {oS : Fin 2 → ℕ} {oC : Fin 3 → ℕ} {oP : Fin 2 → ℕ} {i5 i17 iS iC iP} {L : List (View.Piece (Elt F) S384x9728 .bf16)}
    (hj : oP 1 / 128 < 76) (hS : oS = ![0, oP 1 / 128]) (hC : oC = ![0, 0, 128 * (oP 1 / 128)]) (hP : oP = ![0, 128 * (oP 1 / 128)])
    (hL : Agree (F := F) (HD (arg4.view.read (Elt F) X4) (arg5.view.read (Elt F) X5)) L) :
    Agree (F := F) (HD (arg4.view.read (Elt F) X4) (arg5.view.read (Elt F) X5)) (⟨Rect.unit (s := S384x9728) oP S384x128.size iP,
    shapeCast S384x128 (mulf (extf .bf16 (shapeCast S384x128 (View.readAt (Elt F) arg4.view (Rect.unit (s := S1x384x9728) oC S1x384x128.size iC).toLoadRect X4) shapeCasts_S1x384x128_S384x128) bitsLt_fp8e4m3_bf16)
      (truncf .bf16 (broadcastTo S384x128 (shapeCast S384x1 (View.readCov (Val := Elt F) arg17.view
        [⟨Rect.unit (s := S384x128) ![0, 0] S384x76.size i17, k0_pay5 (View.readAt (Elt F) arg5.view (Rect.unit (s := S1x76x384) ![0, 0, 0] S1x76x384.size i5).toLoadRect X5)⟩]
        (Rect.unit (s := S384x128) oS S384x1.size iS).toLoadRect) shapeCasts_S384x1_S384x1) broadcasts_S384x1_S384x128) bitsLt_bf16_f32)) shapeCasts_S384x128_S384x128⟩ :: L) :=
  Agree.cons (fun x => hd_piece hj arg4 arg5 arg17 X4 X5 hS hC hP i5 i17 iS iC iP x) hL

/-- Pieces that agree with `G` and cover the shape read as `G`. -/
theorem read_agree {S : Shape} {e : EltTy} {sp : Space} (v : View sig .tc sp S e) (f : v.ty.Contents (Elt F)) (G : S.Idx → Elt F e) (L : List (View.Piece (Elt F) S e))
    (hcov : ∀ y, ∃ p ∈ L, y ∈ p.1.set) (hA : Agree (F := F) G L) : v.read (Elt F) (v.writes (Elt F) f L) = G :=
  funext fun y => View.read_writes_apply_of_pieces v f G L hA y (hcov y)

end Cert.KernelIdeal.Hand

end
-- ==== Proof.ValMid.lean ====
module

public import proofs.«01_k».proof.Proof.PanelKI
public import proofs.«01_k».proof.Proof.BodyKI
public import proofs.«01_k».proof.Proof.Gen.KernelIdeal.Frame
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- A middle point of a row: its panel is accumulated into its row of the panels. -/
theorem val_mid (c : Dev nD) (i : grid0.Coords) (arg2 : Memref sig .tc .smem S5 .i32) (harg2 : arg2.IsWhole) (arg3 : Memref sig .tc .smem S20x76 .f32) (harg3 : arg3.IsWhole) (arg4 : Memref sig .tc .vmem S1x384x9728 .fp8e4m3) (harg4 : arg4.IsWhole) (arg5 : Memref sig .tc .vmem S1x76x384 .f32) (harg5 : arg5.IsWhole) (arg6 : Memref sig .tc .vmem S9728x512 .fp8e4m3) (harg6 : arg6.IsWhole) (arg7 : Memref sig .tc .vmem S1x384x512 .bf16) (harg7 : arg7.IsWhole) (arg8 : Memref sig .tc .vmem S1x512 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S1x384x2560 .f32) (harg11 : arg11.IsWhole) (arg12 : Memref sig .tc .vmem S1x1x2560 .f32) (harg12 : arg12.IsWhole) (arg13 : Memref sig .tc .vmem S1x1x2560 .i8) (harg13 : arg13.IsWhole) (arg14 : Memref sig .tc .vmem S1x1x128 .f32) (harg14 : arg14.IsWhole) (arg15 : Memref sig .tc .vmem S384x9728 .bf16) (harg15 : arg15.IsWhole) (arg16 : Memref sig .tc .vmem S512x512 .bf16) (harg16 : arg16.IsWhole) (arg17 : Memref sig .tc .vmem S384x128 .f32) (harg17 : arg17.IsWhole) (arg18 : Memref sig .tc .vmem S5x384x512 .f32) (harg18 : arg18.IsWhole)
    (hc0 : ¬cond0 i) (hc1 : ¬cond1 i) (x0 : Vec F S5 .i32) (x1 : Vec F S20x76 .f32) (x2 : Vec F S1x384x9728 .fp8e4m3) (x3 : Vec F S1x76x384 .f32) (x4 : Vec F S9728x512 .fp8e4m3) (x5 : Vec F S1x384x512 .bf16) (x6 : Vec F S1x512 .f32) (x7 : Vec F S1x2560 .f32) (x8 : Vec F S1x2560 .f32) (x13 : Vec F S384x9728 .bf16) (x16 : Vec F S5x384x512 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x13 ∗ (∃ d, owns (c : Thread nD τ) arg16 fullShare d) ∗ (∃ d, owns (c : Thread nD τ) arg17 fullShare d) ∗ owns (c : Thread nD τ) arg18 fullShare x16
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x13 ∗ (∃ d, owns (c : Thread nD τ) arg16 fullShare d) ∗ (∃ d, owns (c : Thread nD τ) arg17 fullShare d) ∗ owns (c : Thread nD τ) arg18 fullShare (setRow (nOf i) (accPanel (nOf i) x1 x4 x13 (xb x5 x6) 19) x16)) -∗ K ⟨⟩))
      ⊢ wp frame (wpE (defs₀ (F := F)) Variants.none c none) E (cc0_down_proj_ln_pool i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_down_proj_ln_pool_eq_skeleton]; unfold cc0_down_proj_ln_pool_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%d16, %f16, -, H16⟩, ⟨%d17, %f17, -, H17⟩, ⟨%f18, %hf18, H18⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg15.eq_unread hf15; obtain rfl := harg18.eq_unread hf18
  sl_exec (disch := first | sl_exact hc0 | sl_exact hc1)

  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _; isplitr; · ipureintro; exact harg15.read_unread _
    iexact H15
  isplitl [H16]
  · iexists _, _; isplitr; swap; · iexact H16
    ipureintro; rfl
  isplitl [H17]
  · iexists _, _; isplitr; swap; · iexact H17
    ipureintro; rfl
  iexists _; isplitr; swap; · iexact H18
  ipureintro
  refine row_done i arg3 arg6 arg7 arg8 arg15 arg18 _ _ _ _ _ _ _ _ _ 19 x1 x4 x5 x6 _ _ (harg3.read_unread _) (harg6.read_unread _) (harg7.read_unread _) (harg8.read_unread _) ?_ (harg18.read_unread _)
  exact harg15.read_unread _

end Cert.KernelIdeal.Hand

end
-- ==== Proof.ValFirst.lean ====
module

public import proofs.«01_k».proof.Proof.PanelKI
public import proofs.«01_k».proof.Proof.BodyKI
public import proofs.«01_k».proof.Proof.Gen.KernelIdeal.Frame
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The first point of a row: the activations are dequantised, the first panel is accumulated into its row of the panels. -/
theorem val_first (c : Dev nD) (i : grid0.Coords) (arg2 : Memref sig .tc .smem S5 .i32) (harg2 : arg2.IsWhole) (arg3 : Memref sig .tc .smem S20x76 .f32) (harg3 : arg3.IsWhole) (arg4 : Memref sig .tc .vmem S1x384x9728 .fp8e4m3) (harg4 : arg4.IsWhole) (arg5 : Memref sig .tc .vmem S1x76x384 .f32) (harg5 : arg5.IsWhole) (arg6 : Memref sig .tc .vmem S9728x512 .fp8e4m3) (harg6 : arg6.IsWhole) (arg7 : Memref sig .tc .vmem S1x384x512 .bf16) (harg7 : arg7.IsWhole) (arg8 : Memref sig .tc .vmem S1x512 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S1x384x2560 .f32) (harg11 : arg11.IsWhole) (arg12 : Memref sig .tc .vmem S1x1x2560 .f32) (harg12 : arg12.IsWhole) (arg13 : Memref sig .tc .vmem S1x1x2560 .i8) (harg13 : arg13.IsWhole) (arg14 : Memref sig .tc .vmem S1x1x128 .f32) (harg14 : arg14.IsWhole) (arg15 : Memref sig .tc .vmem S384x9728 .bf16) (harg15 : arg15.IsWhole) (arg16 : Memref sig .tc .vmem S512x512 .bf16) (harg16 : arg16.IsWhole) (arg17 : Memref sig .tc .vmem S384x128 .f32) (harg17 : arg17.IsWhole) (arg18 : Memref sig .tc .vmem S5x384x512 .f32) (harg18 : arg18.IsWhole)
    (hc0 : cond0 i) (hc1 : ¬cond1 i) (x0 : Vec F S5 .i32) (x1 : Vec F S20x76 .f32) (x2 : Vec F S1x384x9728 .fp8e4m3) (x3 : Vec F S1x76x384 .f32) (x4 : Vec F S9728x512 .fp8e4m3) (x5 : Vec F S1x384x512 .bf16) (x6 : Vec F S1x512 .f32) (x7 : Vec F S1x2560 .f32) (x8 : Vec F S1x2560 .f32) (x16 : Vec F S5x384x512 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare x16
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare (HD x2 x3) ∗ (∃ d, owns (c : Thread nD τ) arg16 fullShare d) ∗ (∃ d, owns (c : Thread nD τ) arg17 fullShare d) ∗ owns (c : Thread nD τ) arg18 fullShare (setRow (nOf i) (accPanel (nOf i) x1 x4 (HD x2 x3) (xb x5 x6) 19) x16)) -∗ K ⟨⟩))
      ⊢ wp frame (wpE (defs₀ (F := F)) Variants.none c none) E (cc0_down_proj_ln_pool i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_down_proj_ln_pool_eq_skeleton]; unfold cc0_down_proj_ln_pool_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg18.eq_unread hf18
  sl_exec (disch := first | sl_exact hc0 | sl_exact hc1)

  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _; isplitr; swap; · iexact H15
    ipureintro
    sl_unfold_words
    refine (read_agree _ _ (HD (arg4.view.read (Elt F) (harg4.unread x2)) (arg5.view.read (Elt F) (harg5.unread x3))) _ (View.cover_of_tiledL _ S384x128.size (by sl_kernel_rfl)) ?_).trans (by rw [harg4.read_unread, harg5.read_unread])
    repeat refine hd_piece' arg4 arg5 arg17 (harg4.unread x2) (harg5.unread x3) (by decide) rfl rfl rfl ?_
    exact Agree.nil _
  isplitl [H16]
  · iexists _, _; isplitr; swap; · iexact H16
    ipureintro; rfl
  isplitl [H17]
  · iexists _, _; isplitr; swap; · iexact H17
    ipureintro; rfl
  iexists _; isplitr; swap; · iexact H18
  ipureintro
  refine row_done i arg3 arg6 arg7 arg8 arg15 arg18 _ _ _ _ _ _ _ _ _ 19 x1 x4 x5 x6 _ _ (harg3.read_unread _) (harg6.read_unread _) (harg7.read_unread _) (harg8.read_unread _) ?_ (harg18.read_unread _)
  sl_unfold_words
  refine (read_agree _ _ (HD (arg4.view.read (Elt F) (harg4.unread x2)) (arg5.view.read (Elt F) (harg5.unread x3))) _ (View.cover_of_tiledL _ S384x128.size (by sl_kernel_rfl)) ?_).trans (by rw [harg4.read_unread, harg5.read_unread])
  repeat refine hd_piece' arg4 arg5 arg17 (harg4.unread x2) (harg5.unread x3) (by decide) rfl rfl rfl ?_
  exact Agree.nil _

end Cert.KernelIdeal.Hand

end
-- ==== Proof.LastKI.lean ====
module

public import proofs.«01_k».proof.Proof.PanelKI
public import proofs.«01_k».proof.Proof.Gen.KernelIdeal.Frame
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The batch row of a grid point. -/
def bOf (i : grid0.Coords) : Fin 5 := i 0

/-- The length of a batch row. -/
def lenOf (b : Fin 5) (l : Vec F S5 .i32) : Elt F .i32 := l (ix1 (n0 := 5) b)

/-- Panel `p` of the five, as the loads of the last point see it. -/
def pan (p : Fin 5) (Y : Vec F S5x384x512 .f32) : Vec F S1x384x512 .f32 := fun x => Y (ix3 (n0 := 5) (n1 := 384) (n2 := 512) p (x 1) (x 2))

/-- Block `p` of 512 columns of a row of 2560. -/
def gp (p : Fin 5) (g : Vec F S1x2560 .f32) : Vec F S1x512 .f32 :=
  fun x => g (ix2 (n0 := 1) (n1 := 2560) 0 ⟨512 * p.val + (x 1).val, by have : (x 1).val < 512 := (x 1).isLt; have := p.isLt; omega⟩)

/-- The mean of each row over the five panels. -/
def MU (Y : Vec F S5x384x512 .f32) : FVec F S384x1 .f32 := k0_pay118 (pan 0 Y) (pan 1 Y) (pan 2 Y) (pan 3 Y) (pan 4 Y)

/-- The variance of each row over the five panels plus the small constant. -/
def VA (Y : Vec F S5x384x512 .f32) : FVec F S384x1 .f32 :=
  k0_pay122 (MU Y) (k0_pay119 (F := F)) (k0_pay120 (pan 0 Y)) (k0_pay121 (pan 0 Y) (pan 1 Y) (pan 2 Y) (pan 3 Y) (pan 4 Y)) (pan 1 Y) (pan 2 Y) (pan 3 Y) (pan 4 Y)

/-- Panel `p` normalised, scaled, shifted and masked by the length. -/
def ZP (l : Elt F .i32) (Y : Vec F S5x384x512 .f32) (g b : Vec F S1x2560 .f32) (p : Fin 5) : FVec F S384x512 .f32 :=
  k0_pay126 l (MU Y) (VA Y) (pan p Y) (gp p g) (gp p b)

/-- The pooled mean of panel `p`. -/
def AV (l : Elt F .i32) (Y : Vec F S5x384x512 .f32) (g b : Vec F S1x2560 .f32) (p : Fin 5) : FVec F S1x512 .f32 :=
  k0_pay128 l (MU Y) (VA Y) (pan p Y) (gp p g) (gp p b)

/-- The normalised batch row as stored. -/
def ZM (l : Elt F .i32) (Y : Vec F S5x384x512 .f32) (g b : Vec F S1x2560 .f32) : Vec F S1x384x2560 .f32 :=
  fun x => ZP l Y g b ⟨(x 2).val / 512, by have : (x 2).val < 2560 := (x 2).isLt; omega⟩ (ix2 (n0 := 384) (n1 := 512) (x 1) ⟨(x 2).val % 512, Nat.mod_lt _ (by decide)⟩)

/-- The pooled mean as stored. -/
def PM (l : Elt F .i32) (Y : Vec F S5x384x512 .f32) (g b : Vec F S1x2560 .f32) : Vec F S1x1x2560 .f32 :=
  k0_pay146 (k0_pay125 l) (AV l Y g b 0) (AV l Y g b 1) (AV l Y g b 2) (AV l Y g b 3) (ZP l Y g b 4)

/-- The codes of the pooled row as stored. -/
def CO (l : Elt F .i32) (Y : Vec F S5x384x512 .f32) (g b : Vec F S1x2560 .f32) : Vec F S1x1x2560 .i8 :=
  k0_pay147 (k0_pay125 l) (AV l Y g b 0) (AV l Y g b 1) (AV l Y g b 2) (AV l Y g b 3) (ZP l Y g b 4)

/-- The scale of the pooled row as stored, one copy in each lane. -/
def SC (l : Elt F .i32) (Y : Vec F S5x384x512 .f32) (g b : Vec F S1x2560 .f32) : Vec F S1x1x128 .f32 :=
  k0_pay4 (k0_pay148 (k0_pay125 l) (AV l Y g b 0) (AV l Y g b 1) (AV l Y g b 2) (AV l Y g b 3) (ZP l Y g b 4))

/-- A panel read from the panels' scratch. -/
theorem readAt_pan (arg18 : Memref sig .tc .vmem S5x384x512 .f32) (f : BufTy.Contents (Elt F) arg18.view.ty) (p : Fin 5) {o : Fin 3 → ℕ} (ho : o = ![p.val, 0, 0]) (inb)
    {Y : Vec F S5x384x512 .f32} (h : arg18.view.read (Elt F) f = Y) :
    View.readAt (Elt F) arg18.view (Rect.unit (s := S5x384x512) o S1x384x512.size inb).toLoadRect f = pan p Y := by
  subst ho h
  funext x
  rw [View.readAt_eq_ld]
  refine View.ld_unit_apply_of _ _ _ _ _ _ ?_
  intro d; match d with
  | ⟨0, _⟩ => show p.val = p.val + (x 0).val; have : (x 0).val < 1 := (x 0).isLt; omega
  | ⟨1, _⟩ => show (x 1).val = 0 + (x 1).val; omega
  | ⟨2, _⟩ => show (x 2).val = 0 + (x 2).val; omega

/-- A panel's part of a row vector. -/
theorem readAt_gp (arg : Memref sig .tc .vmem S1x2560 .f32) (f : BufTy.Contents (Elt F) arg.view.ty) (p : Fin 5) {o : Fin 2 → ℕ} (ho : o = ![0, 512 * p.val]) (inb)
    {g : Vec F S1x2560 .f32} (h : arg.view.read (Elt F) f = g) :
    View.readAt (Elt F) arg.view (Rect.unit (s := S1x2560) o S1x512.size inb).toLoadRect f = gp p g := by
  subst ho h
  funext x
  rw [View.readAt_eq_ld]
  refine View.ld_unit_apply_of _ _ _ _ _ _ ?_
  intro d; match d with
  | ⟨0, _⟩ => show 0 = 0 + (x 0).val; have : (x 0).val < 1 := (x 0).isLt; omega
  | ⟨1, _⟩ => rfl

/-- The length is read at the batch row. -/
theorem off9_eq (i : grid0.Coords) : k0_off9 i = ![(bOf i).val] := by
  have h : ∀ n : Fin 5, (![BitVec.toNat (Scalar.indexCast (BitVec.ofNat 32 n.val))] : Fin 1 → ℕ) = ![n.val] := by decide +kernel
  exact h (bOf i)

/-- The length read from its buffer. -/
theorem readAt_len (arg2 : Memref sig .tc .smem S5 .i32) (f : BufTy.Contents (Elt F) arg2.view.ty) (p : Fin 5) {o : Fin 1 → ℕ} (ho : o = ![p.val]) (inb)
    {l : Vec F S5 .i32} (h : arg2.view.read (Elt F) f = l) (x) :
    View.readAt (Elt F) arg2.view (Rect.unit (s := S5) o S1.size inb).toLoadRect f x = lenOf p l := by
  subst ho h
  rw [View.readAt_eq_ld]
  refine View.ld_unit_apply_of _ _ _ _ _ _ ?_
  intro d; match d with
  | ⟨0, _⟩ => show p.val = p.val + (x 0).val; have : (x 0).val < 1 := (x 0).isLt; omega

/-- One stored panel of the output agrees with `ZM` on its rectangle. -/
theorem zm_piece (l : Elt F .i32) (Y : Vec F S5x384x512 .f32) (g b : Vec F S1x2560 .f32) (p : Fin 5) {o : Fin 3 → ℕ} (ho : o = ![0, 0, 512 * p.val]) (inb)
    (x : (Rect.unit (s := S1x384x2560) o S1x384x512.size inb).shape.Idx) :
    shapeCast S1x384x512 (ZP l Y g b p) shapeCasts_S384x512_S1x384x512 x = ZM l Y g b ((Rect.unit (s := S1x384x2560) o S1x384x512.size inb).emb x) := by
  subst ho
  have hx2 : (x 2).val < 512 := (x 2).isLt
  refine (shapeCast_addUnit_apply ![384, 512] _ _ _).trans ?_
  have key : ∀ (q : Fin 5) (y z : S384x512.Idx), q = p → y = z → ZP l Y g b p z = ZP l Y g b q y := by rintro q y z rfl rfl; rfl
  refine key _ _ _ ?_ ?_
  · apply Fin.ext; show (512 * p.val + 1 * (x 2).val) / 512 = p.val; omega
  · funext d; apply Fin.ext
    match d with
    | ⟨0, _⟩ => show 0 + 1 * (x 1).val = (x 1).val; omega
    | ⟨1, _⟩ => show (512 * p.val + 1 * (x 2).val) % 512 = (x 2).val; omega

/-- A buffer stored whole reads as the stored payload. -/
theorem read_whole {S : Shape} {e : EltTy} {sp : Space} (v : View sig .tc sp S e) (f : v.ty.Contents (Elt F)) {o : Fin S.rank → ℕ} (ho : ∀ d, o d = 0) (inb)
    (P : S.Idx → Elt F e) : v.read (Elt F) (v.writes (Elt F) f [⟨Rect.unit (s := S) o S.size inb, P⟩]) = P := by
  funext y
  have h : y = (Rect.unit (s := S) o S.size inb).emb y := by
    funext d; apply Fin.ext; show (y d).val = o d + 1 * (y d).val; rw [ho d]; omega
  exact (congrArg _ h).trans (View.read_writes_cons_emb ..)

section Forms
variable (l : Elt F .i32) (mu va : FVec F S384x1 .f32) (p : Vec F S1x384x512 .f32) (g b : Vec F S1x512 .f32)

/-- The same masked panel, as another part of the program spells it. -/
theorem f127 : k0_pay127 l mu va p g b = shapeCast S1x384x512 (k0_pay126 l mu va p g b) shapeCasts_S384x512_S1x384x512 := rfl
/-- The same masked panel, as another part of the program spells it. -/
theorem f132 : k0_pay132 (k0_pay124 l) (k0_pay129 mu va p g) (k0_pay130 b) = shapeCast S1x384x512 (k0_pay126 l mu va p g b) shapeCasts_S384x512_S1x384x512 := rfl
/-- The same pooled panel, as another part of the program spells it. -/
theorem f133 : k0_pay133 (k0_pay124 l) (k0_pay125 l) (k0_pay129 mu va p g) (k0_pay130 b) = k0_pay128 l mu va p g b := rfl
/-- The same masked panel, as another part of the program spells it. -/
theorem f135 : k0_pay135 mu (k0_pay123 va) (k0_pay124 l) p g b = shapeCast S1x384x512 (k0_pay126 l mu va p g b) shapeCasts_S384x512_S1x384x512 := rfl
/-- The same pooled panel, as another part of the program spells it. -/
theorem f136 : k0_pay136 mu (k0_pay123 va) (k0_pay124 l) (k0_pay125 l) p g b = k0_pay128 l mu va p g b := rfl
/-- The same masked panel, as another part of the program spells it. -/
theorem f139 : k0_pay139 (k0_pay123 va) (k0_pay124 l) (k0_pay137 mu p) g b = shapeCast S1x384x512 (k0_pay126 l mu va p g b) shapeCasts_S384x512_S1x384x512 := rfl
/-- The same pooled panel, as another part of the program spells it. -/
theorem f140 : k0_pay140 (k0_pay123 va) (k0_pay124 l) (k0_pay125 l) (k0_pay137 mu p) g b = k0_pay128 l mu va p g b := rfl
/-- The same masked panel, as another part of the program spells it. -/
theorem f141 : k0_pay141 mu (k0_pay123 va) (k0_pay124 l) p g b = k0_pay126 l mu va p g b := rfl
/-- The same masked panel, as another part of the program spells it. -/
theorem f142 : k0_pay142 mu (k0_pay123 va) (k0_pay124 l) p g b = shapeCast S1x384x512 (k0_pay126 l mu va p g b) shapeCasts_S384x512_S1x384x512 := rfl
end Forms

end Cert.KernelIdeal.Hand

end
-- ==== Proof.ValLast.lean ====
module

public import proofs.«01_k».proof.Proof.LastKI
public import proofs.«01_k».proof.Proof.BodyKI
public import proofs.«01_k».proof.Proof.Gen.KernelIdeal.Frame
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The last point of a row: the last panel is accumulated, then the row is normalised and pooled and all four outputs are stored. -/
theorem val_last (c : Dev nD) (i : grid0.Coords) (arg2 : Memref sig .tc .smem S5 .i32) (harg2 : arg2.IsWhole) (arg3 : Memref sig .tc .smem S20x76 .f32) (harg3 : arg3.IsWhole) (arg4 : Memref sig .tc .vmem S1x384x9728 .fp8e4m3) (harg4 : arg4.IsWhole) (arg5 : Memref sig .tc .vmem S1x76x384 .f32) (harg5 : arg5.IsWhole) (arg6 : Memref sig .tc .vmem S9728x512 .fp8e4m3) (harg6 : arg6.IsWhole) (arg7 : Memref sig .tc .vmem S1x384x512 .bf16) (harg7 : arg7.IsWhole) (arg8 : Memref sig .tc .vmem S1x512 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S1x384x2560 .f32) (harg11 : arg11.IsWhole) (arg12 : Memref sig .tc .vmem S1x1x2560 .f32) (harg12 : arg12.IsWhole) (arg13 : Memref sig .tc .vmem S1x1x2560 .i8) (harg13 : arg13.IsWhole) (arg14 : Memref sig .tc .vmem S1x1x128 .f32) (harg14 : arg14.IsWhole) (arg15 : Memref sig .tc .vmem S384x9728 .bf16) (harg15 : arg15.IsWhole) (arg16 : Memref sig .tc .vmem S512x512 .bf16) (harg16 : arg16.IsWhole) (arg17 : Memref sig .tc .vmem S384x128 .f32) (harg17 : arg17.IsWhole) (arg18 : Memref sig .tc .vmem S5x384x512 .f32) (harg18 : arg18.IsWhole)
    (hc0 : ¬cond0 i) (hc1 : cond1 i) (x0 : Vec F S5 .i32) (x1 : Vec F S20x76 .f32) (x2 : Vec F S1x384x9728 .fp8e4m3) (x3 : Vec F S1x76x384 .f32) (x4 : Vec F S9728x512 .fp8e4m3) (x5 : Vec F S1x384x512 .bf16) (x6 : Vec F S1x512 .f32) (x7 : Vec F S1x2560 .f32) (x8 : Vec F S1x2560 .f32) (x13 : Vec F S384x9728 .bf16) (x16 : Vec F S5x384x512 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x13 ∗ (∃ d, owns (c : Thread nD τ) arg16 fullShare d) ∗ (∃ d, owns (c : Thread nD τ) arg17 fullShare d) ∗ owns (c : Thread nD τ) arg18 fullShare x16
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (ZM (lenOf (bOf i) x0) (setRow (nOf i) (accPanel (nOf i) x1 x4 x13 (xb x5 x6) 19) x16) x7 x8) ∗ owns (c : Thread nD τ) arg12 fullShare (PM (lenOf (bOf i) x0) (setRow (nOf i) (accPanel (nOf i) x1 x4 x13 (xb x5 x6) 19) x16) x7 x8) ∗ owns (c : Thread nD τ) arg13 fullShare (CO (lenOf (bOf i) x0) (setRow (nOf i) (accPanel (nOf i) x1 x4 x13 (xb x5 x6) 19) x16) x7 x8) ∗ owns (c : Thread nD τ) arg14 fullShare (SC (lenOf (bOf i) x0) (setRow (nOf i) (accPanel (nOf i) x1 x4 x13 (xb x5 x6) 19) x16) x7 x8) ∗ owns (c : Thread nD τ) arg15 fullShare x13 ∗ (∃ d, owns (c : Thread nD τ) arg16 fullShare d) ∗ (∃ d, owns (c : Thread nD τ) arg17 fullShare d) ∗ owns (c : Thread nD τ) arg18 fullShare (setRow (nOf i) (accPanel (nOf i) x1 x4 x13 (xb x5 x6) 19) x16)) -∗ K ⟨⟩))
      ⊢ wp frame (wpE (defs₀ (F := F)) Variants.none c none) E (cc0_down_proj_ln_pool i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_down_proj_ln_pool_eq_skeleton]; unfold cc0_down_proj_ln_pool_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%d16, %f16, -, H16⟩, ⟨%d17, %f17, -, H17⟩, ⟨%f18, %hf18, H18⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg15.eq_unread hf15; obtain rfl := harg18.eq_unread hf18
  sl_exec (disch := first | sl_exact hc0 | sl_exact hc1)

  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    sl_unfold_words
    generalize hG : accBuf (F := F) i arg3 arg6 arg15 arg18 _ _ _ _ _ = G
    have hY : arg18.view.read (Elt F) G = setRow (nOf i) (accPanel (nOf i) x1 x4 x13 (xb x5 x6) 19) x16 := by
      rw [← hG]
      exact row_done i arg3 arg6 arg7 arg8 arg15 arg18 _ _ _ _ _ _ _ _ _ 19 x1 x4 x5 x6 _ _ (harg3.read_unread _) (harg6.read_unread _) (harg7.read_unread _) (harg8.read_unread _) (harg15.read_unread _) (harg18.read_unread _)
    clear hG
    generalize setRow (nOf i) (accPanel (nOf i) x1 x4 x13 (xb x5 x6) 19) x16 = Y at hY ⊢
    simp only [fun inb => readAt_pan (F := F) arg18 G 0 (o := ![0, 0, 0]) rfl inb hY, fun inb => readAt_pan (F := F) arg18 G 1 (o := ![1, 0, 0]) rfl inb hY, fun inb => readAt_pan (F := F) arg18 G 2 (o := ![2, 0, 0]) rfl inb hY, fun inb => readAt_pan (F := F) arg18 G 3 (o := ![3, 0, 0]) rfl inb hY, fun inb => readAt_pan (F := F) arg18 G 4 (o := ![4, 0, 0]) rfl inb hY]
    simp only [fun inb => readAt_gp (F := F) arg9 _ 0 (o := ![0, 0]) rfl inb hf9, fun inb => readAt_gp (F := F) arg9 _ 1 (o := ![0, 512]) rfl inb hf9, fun inb => readAt_gp (F := F) arg9 _ 2 (o := ![0, 1024]) rfl inb hf9, fun inb => readAt_gp (F := F) arg9 _ 3 (o := ![0, 1536]) rfl inb hf9, fun inb => readAt_gp (F := F) arg9 _ 4 (o := ![0, 2048]) rfl inb hf9]
    simp only [fun inb => readAt_gp (F := F) arg10 _ 0 (o := ![0, 0]) rfl inb hf10, fun inb => readAt_gp (F := F) arg10 _ 1 (o := ![0, 512]) rfl inb hf10, fun inb => readAt_gp (F := F) arg10 _ 2 (o := ![0, 1024]) rfl inb hf10, fun inb => readAt_gp (F := F) arg10 _ 3 (o := ![0, 1536]) rfl inb hf10, fun inb => readAt_gp (F := F) arg10 _ 4 (o := ![0, 2048]) rfl inb hf10]
    generalize hl : View.readAt (Elt F) arg2.view _ _ _ = l
    obtain rfl : l = lenOf (bOf i) x0 := hl.symm.trans (readAt_len arg2 _ (bOf i) (off9_eq i) _ hf2 _)
    clear hl
    simp only [f127, f132, f133, f135, f136, f139, f140, f141, f142]
    refine read_agree _ _ _ _ (View.cover_of_tiledL _ S1x384x512.size (by sl_kernel_rfl)) ?_
    refine Agree.cons (fun x => zm_piece _ Y x7 x8 4 rfl _ x) (Agree.cons (fun x => zm_piece _ Y x7 x8 3 rfl _ x) (Agree.cons (fun x => zm_piece _ Y x7 x8 2 rfl _ x) (Agree.cons (fun x => zm_piece _ Y x7 x8 1 rfl _ x) (Agree.cons (fun x => zm_piece _ Y x7 x8 0 rfl _ x) (Agree.nil _)))))
  isplitl [H12]
  · iexists _; isplitr; swap; · iexact H12
    ipureintro
    sl_unfold_words
    generalize hG : accBuf (F := F) i arg3 arg6 arg15 arg18 _ _ _ _ _ = G
    have hY : arg18.view.read (Elt F) G = setRow (nOf i) (accPanel (nOf i) x1 x4 x13 (xb x5 x6) 19) x16 := by
      rw [← hG]
      exact row_done i arg3 arg6 arg7 arg8 arg15 arg18 _ _ _ _ _ _ _ _ _ 19 x1 x4 x5 x6 _ _ (harg3.read_unread _) (harg6.read_unread _) (harg7.read_unread _) (harg8.read_unread _) (harg15.read_unread _) (harg18.read_unread _)
    clear hG
    generalize setRow (nOf i) (accPanel (nOf i) x1 x4 x13 (xb x5 x6) 19) x16 = Y at hY ⊢
    simp only [fun inb => readAt_pan (F := F) arg18 G 0 (o := ![0, 0, 0]) rfl inb hY, fun inb => readAt_pan (F := F) arg18 G 1 (o := ![1, 0, 0]) rfl inb hY, fun inb => readAt_pan (F := F) arg18 G 2 (o := ![2, 0, 0]) rfl inb hY, fun inb => readAt_pan (F := F) arg18 G 3 (o := ![3, 0, 0]) rfl inb hY, fun inb => readAt_pan (F := F) arg18 G 4 (o := ![4, 0, 0]) rfl inb hY]
    simp only [fun inb => readAt_gp (F := F) arg9 _ 0 (o := ![0, 0]) rfl inb hf9, fun inb => readAt_gp (F := F) arg9 _ 1 (o := ![0, 512]) rfl inb hf9, fun inb => readAt_gp (F := F) arg9 _ 2 (o := ![0, 1024]) rfl inb hf9, fun inb => readAt_gp (F := F) arg9 _ 3 (o := ![0, 1536]) rfl inb hf9, fun inb => readAt_gp (F := F) arg9 _ 4 (o := ![0, 2048]) rfl inb hf9]
    simp only [fun inb => readAt_gp (F := F) arg10 _ 0 (o := ![0, 0]) rfl inb hf10, fun inb => readAt_gp (F := F) arg10 _ 1 (o := ![0, 512]) rfl inb hf10, fun inb => readAt_gp (F := F) arg10 _ 2 (o := ![0, 1024]) rfl inb hf10, fun inb => readAt_gp (F := F) arg10 _ 3 (o := ![0, 1536]) rfl inb hf10, fun inb => readAt_gp (F := F) arg10 _ 4 (o := ![0, 2048]) rfl inb hf10]
    generalize hl : View.readAt (Elt F) arg2.view _ _ _ = l
    obtain rfl : l = lenOf (bOf i) x0 := hl.symm.trans (readAt_len arg2 _ (bOf i) (off9_eq i) _ hf2 _)
    clear hl
    simp only [f127, f132, f133, f135, f136, f139, f140, f141, f142]
    exact read_whole _ _ (by decide) _ _
  isplitl [H13]
  · iexists _; isplitr; swap; · iexact H13
    ipureintro
    sl_unfold_words
    generalize hG : accBuf (F := F) i arg3 arg6 arg15 arg18 _ _ _ _ _ = G
    have hY : arg18.view.read (Elt F) G = setRow (nOf i) (accPanel (nOf i) x1 x4 x13 (xb x5 x6) 19) x16 := by
      rw [← hG]
      exact row_done i arg3 arg6 arg7 arg8 arg15 arg18 _ _ _ _ _ _ _ _ _ 19 x1 x4 x5 x6 _ _ (harg3.read_unread _) (harg6.read_unread _) (harg7.read_unread _) (harg8.read_unread _) (harg15.read_unread _) (harg18.read_unread _)
    clear hG
    generalize setRow (nOf i) (accPanel (nOf i) x1 x4 x13 (xb x5 x6) 19) x16 = Y at hY ⊢
    simp only [fun inb => readAt_pan (F := F) arg18 G 0 (o := ![0, 0, 0]) rfl inb hY, fun inb => readAt_pan (F := F) arg18 G 1 (o := ![1, 0, 0]) rfl inb hY, fun inb => readAt_pan (F := F) arg18 G 2 (o := ![2, 0, 0]) rfl inb hY, fun inb => readAt_pan (F := F) arg18 G 3 (o := ![3, 0, 0]) rfl inb hY, fun inb => readAt_pan (F := F) arg18 G 4 (o := ![4, 0, 0]) rfl inb hY]
    simp only [fun inb => readAt_gp (F := F) arg9 _ 0 (o := ![0, 0]) rfl inb hf9, fun inb => readAt_gp (F := F) arg9 _ 1 (o := ![0, 512]) rfl inb hf9, fun inb => readAt_gp (F := F) arg9 _ 2 (o := ![0, 1024]) rfl inb hf9, fun inb => readAt_gp (F := F) arg9 _ 3 (o := ![0, 1536]) rfl inb hf9, fun inb => readAt_gp (F := F) arg9 _ 4 (o := ![0, 2048]) rfl inb hf9]
    simp only [fun inb => readAt_gp (F := F) arg10 _ 0 (o := ![0, 0]) rfl inb hf10, fun inb => readAt_gp (F := F) arg10 _ 1 (o := ![0, 512]) rfl inb hf10, fun inb => readAt_gp (F := F) arg10 _ 2 (o := ![0, 1024]) rfl inb hf10, fun inb => readAt_gp (F := F) arg10 _ 3 (o := ![0, 1536]) rfl inb hf10, fun inb => readAt_gp (F := F) arg10 _ 4 (o := ![0, 2048]) rfl inb hf10]
    generalize hl : View.readAt (Elt F) arg2.view _ _ _ = l
    obtain rfl : l = lenOf (bOf i) x0 := hl.symm.trans (readAt_len arg2 _ (bOf i) (off9_eq i) _ hf2 _)
    clear hl
    simp only [f127, f132, f133, f135, f136, f139, f140, f141, f142]
    exact read_whole _ _ (by decide) _ _
  isplitl [H14]
  · iexists _; isplitr; swap; · iexact H14
    ipureintro
    sl_unfold_words
    generalize hG : accBuf (F := F) i arg3 arg6 arg15 arg18 _ _ _ _ _ = G
    have hY : arg18.view.read (Elt F) G = setRow (nOf i) (accPanel (nOf i) x1 x4 x13 (xb x5 x6) 19) x16 := by
      rw [← hG]
      exact row_done i arg3 arg6 arg7 arg8 arg15 arg18 _ _ _ _ _ _ _ _ _ 19 x1 x4 x5 x6 _ _ (harg3.read_unread _) (harg6.read_unread _) (harg7.read_unread _) (harg8.read_unread _) (harg15.read_unread _) (harg18.read_unread _)
    clear hG
    generalize setRow (nOf i) (accPanel (nOf i) x1 x4 x13 (xb x5 x6) 19) x16 = Y at hY ⊢
    simp only [fun inb => readAt_pan (F := F) arg18 G 0 (o := ![0, 0, 0]) rfl inb hY, fun inb => readAt_pan (F := F) arg18 G 1 (o := ![1, 0, 0]) rfl inb hY, fun inb => readAt_pan (F := F) arg18 G 2 (o := ![2, 0, 0]) rfl inb hY, fun inb => readAt_pan (F := F) arg18 G 3 (o := ![3, 0, 0]) rfl inb hY, fun inb => readAt_pan (F := F) arg18 G 4 (o := ![4, 0, 0]) rfl inb hY]
    simp only [fun inb => readAt_gp (F := F) arg9 _ 0 (o := ![0, 0]) rfl inb hf9, fun inb => readAt_gp (F := F) arg9 _ 1 (o := ![0, 512]) rfl inb hf9, fun inb => readAt_gp (F := F) arg9 _ 2 (o := ![0, 1024]) rfl inb hf9, fun inb => readAt_gp (F := F) arg9 _ 3 (o := ![0, 1536]) rfl inb hf9, fun inb => readAt_gp (F := F) arg9 _ 4 (o := ![0, 2048]) rfl inb hf9]
    simp only [fun inb => readAt_gp (F := F) arg10 _ 0 (o := ![0, 0]) rfl inb hf10, fun inb => readAt_gp (F := F) arg10 _ 1 (o := ![0, 512]) rfl inb hf10, fun inb => readAt_gp (F := F) arg10 _ 2 (o := ![0, 1024]) rfl inb hf10, fun inb => readAt_gp (F := F) arg10 _ 3 (o := ![0, 1536]) rfl inb hf10, fun inb => readAt_gp (F := F) arg10 _ 4 (o := ![0, 2048]) rfl inb hf10]
    generalize hl : View.readAt (Elt F) arg2.view _ _ _ = l
    obtain rfl : l = lenOf (bOf i) x0 := hl.symm.trans (readAt_len arg2 _ (bOf i) (off9_eq i) _ hf2 _)
    clear hl
    simp only [f127, f132, f133, f135, f136, f139, f140, f141, f142]
    exact read_whole _ _ (by decide) _ _
  isplitl [H15]
  · iexists _; isplitr; · ipureintro; exact harg15.read_unread _
    iexact H15
  isplitl [H16]
  · iexists _, _; isplitr; swap; · iexact H16
    ipureintro; rfl
  isplitl [H17]
  · iexists _, _; isplitr; swap; · iexact H17
    ipureintro; rfl
  iexists _; isplitr; swap; · iexact H18
  ipureintro
  refine row_done i arg3 arg6 arg7 arg8 arg15 arg18 _ _ _ _ _ _ _ _ _ 19 x1 x4 x5 x6 _ _ (harg3.read_unread _) (harg6.read_unread _) (harg7.read_unread _) (harg8.read_unread _) ?_ (harg18.read_unread _)
  exact harg15.read_unread _

end Cert.KernelIdeal.Hand

end
-- ==== Proof.ValueKI.lean ====
module

public import proofs.«01_k».proof.Proof.ValMid
public import proofs.«01_k».proof.Proof.ValFirst
public import proofs.«01_k».proof.Proof.ValLast
public import proofs.«01_k».proof.Proof.FrameKI
public import proofs.«01_k».proof.Proof.Gen.KernelIdeal.Frame
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number `n`. -/
def pt (n : ℕ) : Fin cfg0.N := ⟨n % 25, lt_of_lt_of_eq (Nat.mod_lt _ (by decide)) (show (25 : ℕ) = cfg0.N from N_0.symm)⟩

/-- A grid point from its number. -/
theorem pt_val (t : Fin cfg0.N) {n : ℕ} (h : n = t.val) : pt n = t := by
  subst h; apply Fin.ext; exact Nat.mod_eq_of_lt (lt_of_lt_of_eq t.isLt (show cfg0.N = 25 from N_0))

/-- A point's panel number is its remainder by five, -/
theorem nOf_coords (t : Fin cfg0.N) : (nOf (grid0.coords t)).val = t.val % 5 := by
  have e1 : (grid0.coords t 1).val = t.val / 1 % 5 := Pipeline.Grid.coords_val t 1 (by decide) rfl
  show (grid0.coords t 1).val = _
  omega

/-- and its batch row the quotient. -/
theorem bOf_coords (t : Fin cfg0.N) : (bOf (grid0.coords t)).val = t.val / 5 := by
  have hN : t.val < 25 := lt_of_lt_of_eq t.isLt (show cfg0.N = 25 from N_0)
  have e0 : (grid0.coords t 0).val = t.val / 5 % 5 := Pipeline.Grid.coords_val t 0 (by decide) rfl
  show (grid0.coords t 0).val = _
  omega

/-- The dequantised activations of batch row `b`. -/
def Hd (c : Dev nD) (b : ℕ) : Vec F S384x9728 .bf16 := HD (iblk m c 2 (pt (5 * b))) (iblk m c 3 (pt (5 * b)))

/-- The finished panel of a point. -/
def PV (c : Dev nD) (t : Fin cfg0.N) : FVec F S384x512 .f32 :=
  accPanel (nOf (grid0.coords t)) (iblk m c 1 t) (iblk m c 4 t) (Hd m c (t.val / 5)) (xb (iblk m c 5 t) (iblk m c 6 t)) 19

/-- The five finished panels of batch row `b`. -/
def Y5 (c : Dev nD) (b : ℕ) : Vec F S5x384x512 .f32 := fun y => PV m c (pt (5 * b + (y 0).val)) (ix2 (n0 := 384) (n1 := 512) (y 1) (y 2))

/-- The panels below the point's are finished. -/
def RowsOK (c : Dev nD) (n : ℕ) (Y : Vec F S5x384x512 .f32) : Prop := ∀ r : Fin 5, r.val < n % 5 → rowOf r Y = PV m c (pt (5 * (n / 5) + r.val))

/-- Reading another row than the one set. -/
theorem rowOf_setRow_ne (r n : Fin 5) (h : r.val ≠ n.val) (A : FVec F S384x512 .f32) (Y : Vec F S5x384x512 .f32) : rowOf r (setRow n A Y) = rowOf r Y := by
  funext y
  show (if r.val = n.val then _ else _) = _
  rw [if_neg h]; rfl

/-- A point that is not the last of its row finishes one panel more. -/
theorem rows_step (c : Dev nD) (t : Fin cfg0.N) (ht : t.val % 5 ≠ 4) (Y : Vec F S5x384x512 .f32) (h : RowsOK m c t.val Y) :
    RowsOK m c (t.val + 1) (setRow (nOf (grid0.coords t)) (PV m c t) Y) := by
  intro r hr
  have hn := nOf_coords t
  by_cases hrt : r.val = t.val % 5
  · obtain rfl : r = nOf (grid0.coords t) := Fin.ext (hrt.trans hn.symm)
    rw [rowOf_setRow, pt_val t (by omega)]
  · rw [rowOf_setRow_ne _ _ (by omega), h r (by omega), show (t.val + 1) / 5 = t.val / 5 by omega]

/-- The last point of a row finishes the last panel. -/
theorem rows_last (c : Dev nD) (t : Fin cfg0.N) (ht : t.val % 5 = 4) (Y : Vec F S5x384x512 .f32) (h : RowsOK m c t.val Y) :
    setRow (nOf (grid0.coords t)) (PV m c t) Y = Y5 m c (t.val / 5) := by
  funext y
  have hn := nOf_coords t
  have hy : (y 0).val < 5 := (y 0).isLt
  unfold Y5 setRow
  split
  · rename_i hc
    rw [pt_val t (by omega)]
  · rename_i hc
    have := h (y 0) (by show (y 0).val < _; omega)
    rw [← this]
    exact congrArg Y (ix3_eta y).symm

/-- The invariant before position `n`: at the start of a batch row the scratch holds anything, inside it the dequantised
    activations and the panels finished so far. -/
def PhiV (c : Dev nD) (n : ℕ) : sProp 𝕄 :=
  if n % 5 = 0 then Pipeline.ΦA spec0 c
  else iprop(iprop(owns (c : Thread nD τ) (Memref.whole cc0_scratch0) fullShare (Hd m c (n / 5)) ∗ (∃ d, owns (c : Thread nD τ) (Memref.whole cc0_scratch1) fullShare d)
    ∗ (∃ d, owns (c : Thread nD τ) (Memref.whole cc0_scratch2) fullShare d) ∗ (∃ Y, iprop(⌜RowsOK m c n Y⌝ ∗ owns (c : Thread nD τ) (Memref.whole cc0_scratch3) fullShare Y))) ∗ (∃ r, prngReg c r))

/-- The length a point's batch row is masked by. -/
def LN (c : Dev nD) (t : Fin cfg0.N) : Elt F .i32 := lenOf (bOf (grid0.coords t)) (iblk m c 0 t)

/-- The proof data: each input at its block, each output at what the last point of its row stores. -/
def vdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => ZM (LN m c t) (Y5 m c (t.val / 5)) (iblk m c 7 t) (iblk m c 8 t)
    | ⟨10, _⟩ => PM (LN m c t) (Y5 m c (t.val / 5)) (iblk m c 7 t) (iblk m c 8 t)
    | ⟨11, _⟩ => CO (LN m c t) (Y5 m c (t.val / 5)) (iblk m c 7 t) (iblk m c 8 t)
    | ⟨12, _⟩ => SC (LN m c t) (Y5 m c (t.val / 5)) (iblk m c 7 t) (iblk m c 8 t)
  Φ t := PhiV m c t.val
  q _ := fullShare
  owed _ := 0

/-- The proof data's arrays are the contents the region finds. -/
theorem vA_eq (c : Dev nD) (w : Fin cfg0.W) : (vdats m 0 c).A w = V m c (Pipeline.arrRef spec0 w) := by
  dsimp only [vdats]

/-- After a grid point, the block of the lengths is as fetched. -/
theorem vafter0_0 (c : Dev nD) (t : Fin cfg0.N) : (vdats m 0 c).after 0 t = iblk m c 0 t := by dsimp only [vdats]
/-- Before a grid point, the block of the lengths is as fetched. -/
theorem vbefore0_0 (c : Dev nD) (t : Fin cfg0.N) (d) : (vdats m 0 c).before 0 t d = iblk m c 0 t :=
  before0_0_of m (vdats m 0 c) (vA_eq m c 0) (vafter0_0 m c) t d
/-- After a grid point, the block of the weight scales is as fetched. -/
theorem vafter0_1 (c : Dev nD) (t : Fin cfg0.N) : (vdats m 0 c).after 1 t = iblk m c 1 t := by dsimp only [vdats]
/-- Before a grid point, the block of the weight scales is as fetched. -/
theorem vbefore0_1 (c : Dev nD) (t : Fin cfg0.N) (d) : (vdats m 0 c).before 1 t d = iblk m c 1 t :=
  before0_1_of m (vdats m 0 c) (vA_eq m c 1) (vafter0_1 m c) t d
/-- After a grid point, the block of the hidden codes is as fetched. -/
theorem vafter0_2 (c : Dev nD) (t : Fin cfg0.N) : (vdats m 0 c).after 2 t = iblk m c 2 t := by dsimp only [vdats]
/-- Before a grid point, the block of the hidden codes is as fetched. -/
theorem vbefore0_2 (c : Dev nD) (t : Fin cfg0.N) (d) : (vdats m 0 c).before 2 t d = iblk m c 2 t :=
  before0_2_of m (vdats m 0 c) (vA_eq m c 2) (vafter0_2 m c) t d
/-- After a grid point, the block of the hidden scales is as fetched. -/
theorem vafter0_3 (c : Dev nD) (t : Fin cfg0.N) : (vdats m 0 c).after 3 t = iblk m c 3 t := by dsimp only [vdats]
/-- Before a grid point, the block of the hidden scales is as fetched. -/
theorem vbefore0_3 (c : Dev nD) (t : Fin cfg0.N) (d) : (vdats m 0 c).before 3 t d = iblk m c 3 t :=
  before0_3_of m (vdats m 0 c) (vA_eq m c 3) (vafter0_3 m c) t d
/-- After a grid point, the block of the weight codes is as fetched. -/
theorem vafter0_4 (c : Dev nD) (t : Fin cfg0.N) : (vdats m 0 c).after 4 t = iblk m c 4 t := by dsimp only [vdats]
/-- Before a grid point, the block of the weight codes is as fetched. -/
theorem vbefore0_4 (c : Dev nD) (t : Fin cfg0.N) (d) : (vdats m 0 c).before 4 t d = iblk m c 4 t :=
  before0_4_of m (vdats m 0 c) (vA_eq m c 4) (vafter0_4 m c) t d
/-- After a grid point, the block of x is as fetched. -/
theorem vafter0_5 (c : Dev nD) (t : Fin cfg0.N) : (vdats m 0 c).after 5 t = iblk m c 5 t := by dsimp only [vdats]
/-- Before a grid point, the block of x is as fetched. -/
theorem vbefore0_5 (c : Dev nD) (t : Fin cfg0.N) (d) : (vdats m 0 c).before 5 t d = iblk m c 5 t :=
  before0_5_of m (vdats m 0 c) (vA_eq m c 5) (vafter0_5 m c) t d
/-- After a grid point, the block of the bias is as fetched. -/
theorem vafter0_6 (c : Dev nD) (t : Fin cfg0.N) : (vdats m 0 c).after 6 t = iblk m c 6 t := by dsimp only [vdats]
/-- Before a grid point, the block of the bias is as fetched. -/
theorem vbefore0_6 (c : Dev nD) (t : Fin cfg0.N) (d) : (vdats m 0 c).before 6 t d = iblk m c 6 t :=
  before0_6_of m (vdats m 0 c) (vA_eq m c 6) (vafter0_6 m c) t d
/-- After a grid point, the block of the layer norm gain is as fetched. -/
theorem vafter0_7 (c : Dev nD) (t : Fin cfg0.N) : (vdats m 0 c).after 7 t = iblk m c 7 t := by dsimp only [vdats]
/-- Before a grid point, the block of the layer norm gain is as fetched. -/
theorem vbefore0_7 (c : Dev nD) (t : Fin cfg0.N) (d) : (vdats m 0 c).before 7 t d = iblk m c 7 t :=
  before0_7_of m (vdats m 0 c) (vA_eq m c 7) (vafter0_7 m c) t d
/-- After a grid point, the block of the layer norm offset is as fetched. -/
theorem vafter0_8 (c : Dev nD) (t : Fin cfg0.N) : (vdats m 0 c).after 8 t = iblk m c 8 t := by dsimp only [vdats]
/-- Before a grid point, the block of the layer norm offset is as fetched. -/
theorem vbefore0_8 (c : Dev nD) (t : Fin cfg0.N) (d) : (vdats m 0 c).before 8 t d = iblk m c 8 t :=
  before0_8_of m (vdats m 0 c) (vA_eq m c 8) (vafter0_8 m c) t d
/-- After a grid point, the block of the masked rows as a last panel computes it. -/
theorem vafter0_9 (c : Dev nD) (t : Fin cfg0.N) : (vdats m 0 c).after 9 t = ZM (LN m c t) (Y5 m c (t.val / 5)) (iblk m c 7 t) (iblk m c 8 t) := by dsimp only [vdats]
/-- After a grid point, the block of the pooled mean as a last panel computes it. -/
theorem vafter0_10 (c : Dev nD) (t : Fin cfg0.N) : (vdats m 0 c).after 10 t = PM (LN m c t) (Y5 m c (t.val / 5)) (iblk m c 7 t) (iblk m c 8 t) := by dsimp only [vdats]
/-- After a grid point, the block of the codes as a last panel computes it. -/
theorem vafter0_11 (c : Dev nD) (t : Fin cfg0.N) : (vdats m 0 c).after 11 t = CO (LN m c t) (Y5 m c (t.val / 5)) (iblk m c 7 t) (iblk m c 8 t) := by dsimp only [vdats]
/-- After a grid point, the block of the repeated scale as a last panel computes it. -/
theorem vafter0_12 (c : Dev nD) (t : Fin cfg0.N) : (vdats m 0 c).after 12 t = SC (LN m c t) (Y5 m c (t.val / 5)) (iblk m c 7 t) (iblk m c 8 t) := by dsimp only [vdats]

/-- An output not fetched, written back at the last points only and idle elsewhere holds at every point whatever it was given. -/
theorem vbefore_out (c : Dev nD) (w : Fin cfg0.W) (hf : ∀ t, (cfg0.win w).fetch t = false) (hi : ∀ t : Fin cfg0.N, (cfg0.win w).flush t = false → cfg0.idle w (grid0.coords t) = true) (d) :
    ∀ (n : ℕ) (h : n < cfg0.N), (vdats m 0 c).before w ⟨n, h⟩ d = d
  | 0, h => by unfold Dat.before; rw [if_neg (by rw [hf]; decide), if_pos rfl]
  | n + 1, h => by
    have ih := vbefore_out c w hf hi d n (Nat.lt_of_succ_lt h)
    unfold Dat.before
    rw [if_neg (by rw [hf]; decide), if_neg (Nat.succ_ne_zero n)]
    dsimp only
    by_cases hfl : (cfg0.win w).flush ⟨n, Nat.lt_of_succ_lt h⟩ = true
    · exact if_pos hfl
    · refine (if_neg hfl).trans ?_
      have hid : idle0 w (grid0.coords ⟨n + 1 - 1, Nat.lt_of_succ_lt h⟩) = true := hi ⟨n, Nat.lt_of_succ_lt h⟩ (by simpa using hfl)
      rw [hid]
      exact ((vdats m 0 c).found_eq_before w _ d).trans ih

/-- Away from the last point of a row the outputs are idle, -/
theorem idle_of (t : Fin cfg0.N) (h : ¬ t.val % 5 = 4) : (!(k0_cond2 (grid0.coords t) == 1#1)) = true := by
  have h' : ¬ k0_cond2 (grid0.coords t) = 1#1 := fun h' => h ((hcond1 t).mp h')
  simpa using h'
/-- at it they are not. -/
theorem live_of (t : Fin cfg0.N) (h : t.val % 5 = 4) : (!(k0_cond2 (grid0.coords t) == 1#1)) = false := by
  have h' : k0_cond2 (grid0.coords t) = 1#1 := (hcond1 t).mpr h
  rw [h']; rfl

/-- Before a grid point, the block of the masked rows is arbitrary. -/
theorem vbefore0_9 (c : Dev nD) (t : Fin cfg0.N) (d) : (vdats m 0 c).before 9 t d = d :=
  vbefore_out m c 9 (fun _ => rfl) (fun t h => idle_of t (fun h' => by rw [(flush0_9 t).mpr h'] at h; exact absurd h (by decide))) d t.val t.isLt
/-- The block of the masked rows is written back only at a row's last panel. -/
theorem noflush_9 (t : Fin cfg0.N) (h : ¬ t.val % 5 = 4) : (cfg0.win 9).flush t = false := by
  by_contra hc; exact h ((flush0_9 t).mp (by simpa using hc))
/-- Before a grid point, the block of the pooled mean is arbitrary. -/
theorem vbefore0_10 (c : Dev nD) (t : Fin cfg0.N) (d) : (vdats m 0 c).before 10 t d = d :=
  vbefore_out m c 10 (fun _ => rfl) (fun t h => idle_of t (fun h' => by rw [(flush0_10 t).mpr h'] at h; exact absurd h (by decide))) d t.val t.isLt
/-- The block of the pooled mean is written back only at a row's last panel. -/
theorem noflush_10 (t : Fin cfg0.N) (h : ¬ t.val % 5 = 4) : (cfg0.win 10).flush t = false := by
  by_contra hc; exact h ((flush0_10 t).mp (by simpa using hc))
/-- Before a grid point, the block of the codes is arbitrary. -/
theorem vbefore0_11 (c : Dev nD) (t : Fin cfg0.N) (d) : (vdats m 0 c).before 11 t d = d :=
  vbefore_out m c 11 (fun _ => rfl) (fun t h => idle_of t (fun h' => by rw [(flush0_11 t).mpr h'] at h; exact absurd h (by decide))) d t.val t.isLt
/-- The block of the codes is written back only at a row's last panel. -/
theorem noflush_11 (t : Fin cfg0.N) (h : ¬ t.val % 5 = 4) : (cfg0.win 11).flush t = false := by
  by_contra hc; exact h ((flush0_11 t).mp (by simpa using hc))
/-- Before a grid point, the block of the repeated scale is arbitrary. -/
theorem vbefore0_12 (c : Dev nD) (t : Fin cfg0.N) (d) : (vdats m 0 c).before 12 t d = d :=
  vbefore_out m c 12 (fun _ => rfl) (fun t h => idle_of t (fun h' => by rw [(flush0_12 t).mpr h'] at h; exact absurd h (by decide))) d t.val t.isLt
/-- The block of the repeated scale is written back only at a row's last panel. -/
theorem noflush_12 (t : Fin cfg0.N) (h : ¬ t.val % 5 = 4) : (cfg0.win 12).flush t = false := by
  by_contra hc; exact h ((flush0_12 t).mp (by simpa using hc))

/-- A window that is not idle is returned at what the body leaves. -/
theorem vleaves (c : Dev nD) (t : Fin cfg0.N) (w : Fin cfg0.W) (h : cfg0.idle w (grid0.coords t) = false) :
    (vdats m 0 c).leavesExact w t = owns (c : Thread nD τ) ((cfg0.win w).stage (cfg0.slots t w)) fullShare ((vdats m 0 c).after w t) := by
  unfold Dat.leavesExact; rw [h]
/-- An idle one that is not written back is returned as found. -/
theorem vleaves_idle (c : Dev nD) (t : Fin cfg0.N) (w : Fin cfg0.W) (h : cfg0.idle w (grid0.coords t) = true) (hf : (cfg0.win w).flush t = false) :
    (vdats m 0 c).leavesExact w t = iprop(∃ d, owns (c : Thread nD τ) ((cfg0.win w).stage (cfg0.slots t w)) fullShare ((vdats m 0 c).before w t d)) := by
  unfold Dat.leavesExact; rw [h]; dsimp only; rw [hf]

/-- What the body is called with at a point, -/
def vPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d))
    ∗ (∃ d, owns (c : Thread nD τ) (st0_7 t) fullShare ((vdats m 0 c).before 7 t d))
    ∗ (∃ d, owns (c : Thread nD τ) (st0_8 t) fullShare ((vdats m 0 c).before 8 t d))
    ∗ (∃ d, owns (c : Thread nD τ) (st0_9 t) fullShare ((vdats m 0 c).before 9 t d))
    ∗ (∃ d, owns (c : Thread nD τ) (st0_10 t) fullShare ((vdats m 0 c).before 10 t d))
    ∗ (∃ d, owns (c : Thread nD τ) (st0_11 t) fullShare ((vdats m 0 c).before 11 t d))
    ∗ (∃ d, owns (c : Thread nD τ) (st0_12 t) fullShare ((vdats m 0 c).before 12 t d)))

/-- and what it returns. -/
def vPost (c : Dev nD) (t : Fin cfg0.N) : sProp 𝕄 :=
  iprop((vdats m 0 c).Φ t.succ ∗ (vdats m 0 c).owesAt () t.succ
    ∗ (vdats m 0 c).leavesExact 0 t
    ∗ (vdats m 0 c).leavesExact 1 t
    ∗ (vdats m 0 c).leavesExact 2 t
    ∗ (vdats m 0 c).leavesExact 3 t
    ∗ (vdats m 0 c).leavesExact 4 t
    ∗ (vdats m 0 c).leavesExact 5 t
    ∗ (vdats m 0 c).leavesExact 6 t
    ∗ (vdats m 0 c).leavesExact 7 t
    ∗ (vdats m 0 c).leavesExact 8 t
    ∗ (vdats m 0 c).leavesExact 9 t
    ∗ (vdats m 0 c).leavesExact 10 t
    ∗ (vdats m 0 c).leavesExact 11 t
    ∗ (vdats m 0 c).leavesExact 12 t)

set_option maxHeartbeats 4800000 in
/-- The body at any point, by which of the three runs the point takes. -/
theorem vsound_body (c : Dev nD) (t : Fin cfg0.N) :
    vPre m c t ⊢ wp Idealize.ShloMosaic.frame (wpE (defs₀ (F := F)) Variants.none c none) Set.univ (bodyAt0 t) (fun _ => vPost m c t) := by
  unfold vPre vPost bodyAt0
  simp only [vbefore0_0, vbefore0_1, vbefore0_2, vbefore0_3, vbefore0_4, vbefore0_5, vbefore0_6, vbefore0_7, vbefore0_8, vbefore0_9, vbefore0_10, vbefore0_11, vbefore0_12]
  rw [show (vdats m 0 c).owesAt () t.succ = (vdats m 0 c).owesAt () t.castSucc from rfl]
  rw [show (vdats m 0 c).Φ t.succ = PhiV m c (t.val + 1) from rfl, show (vdats m 0 c).Φ t.castSucc = PhiV m c t.val from rfl]
  rw [vleaves m c t 0 rfl, vafter0_0, vleaves m c t 1 rfl, vafter0_1, vleaves m c t 2 rfl, vafter0_2, vleaves m c t 3 rfl, vafter0_3, vleaves m c t 4 rfl, vafter0_4, vleaves m c t 5 rfl, vafter0_5, vleaves m c t 6 rfl, vafter0_6, vleaves m c t 7 rfl, vafter0_7, vleaves m c t 8 rfl, vafter0_8]
  by_cases h0 : t.val % 5 = 0
  · have h1 : ¬ t.val % 5 = 4 := by omega
    rw [show PhiV m c t.val = Pipeline.ΦA spec0 c from if_pos h0, PhiA0_eq]
    rw [show PhiV m c (t.val + 1) = _ from if_neg (by omega)]
    rw [vleaves_idle m c t 9 (idle_of t h1) (noflush_9 t h1), vleaves_idle m c t 10 (idle_of t h1) (noflush_10 t h1), vleaves_idle m c t 11 (idle_of t h1) (noflush_11 t h1), vleaves_idle m c t 12 (idle_of t h1) (noflush_12 t h1)]
    simp only [vbefore0_9, vbefore0_10, vbefore0_11, vbefore0_12]
    have hH : HD (iblk m c 2 t) (iblk m c 3 t) = Hd m c (t.val / 5) := by unfold Hd; rw [pt_val t (by omega)]
    have hH' : Hd m c ((t.val + 1) / 5) = Hd m c (t.val / 5) := by rw [show (t.val + 1) / 5 = t.val / 5 by omega]
    rw [hH']
    iintro ⟨⟨⟨S0, S1, S2, ⟨%Y, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
    iapply (val_first c (grid0.coords t) _ _ _ _ _ _ _ _ _ _ _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    rw [hH]
    iintro ⟨H0, H1, H2, H3, H4, H5, H6, H7, H8, H9, H10, H11, H12, S0, S1, S2, S3⟩
    isplitl [S0 S1 S2 S3 Hg]
    · isplitl [S0 S1 S2 S3]
      · isplitl [S0]; · iexact S0
        isplitl [S1]; · iexact S1
        isplitl [S2]; · iexact S2
        iexists _; isplitr; swap; · iexact S3
        ipureintro; exact rows_step m c t h1 Y (fun r hr => absurd hr (by omega))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · by_cases h1 : t.val % 5 = 4
    · rw [show PhiV m c t.val = _ from if_neg h0]
      rw [show PhiV m c (t.val + 1) = Pipeline.ΦA spec0 c from if_pos (by omega), PhiA0_eq]
      rw [vleaves m c t 9 (live_of t h1), vafter0_9, vleaves m c t 10 (live_of t h1), vafter0_10, vleaves m c t 11 (live_of t h1), vafter0_11, vleaves m c t 12 (live_of t h1), vafter0_12]
      iintro ⟨⟨⟨S0, S1, S2, ⟨%Y, %hY, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
      iapply (val_last c (grid0.coords t) _ _ _ _ _ _ _ _ _ _ _ _ _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (Hd m c (t.val / 5)) Y Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [S0]; · iexact S0
      isplitl [S1]; · iexact S1
      isplitl [S2]; · iexact S2
      isplitl [S3]; · iexact S3
      rw [show setRow (nOf (grid0.coords t)) (accPanel (nOf (grid0.coords t)) (iblk m c 1 t) (iblk m c 4 t) (Hd m c (t.val / 5)) (xb (iblk m c 5 t) (iblk m c 6 t)) 19) Y = Y5 m c (t.val / 5) from rows_last m c t h1 Y hY]
      iintro ⟨H0, H1, H2, H3, H4, H5, H6, H7, H8, H9, H10, H11, H12, S0, S1, S2, S3⟩
      isplitl [S0 S1 S2 S3 Hg]
      · isplitl [S0 S1 S2 S3]
        · isplitl [S0]; · iexists _; iexact S0
          isplitl [S1]; · iexact S1
          isplitl [S2]; · iexact S2
          iexists _; iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [show PhiV m c t.val = _ from if_neg h0]
      rw [show PhiV m c (t.val + 1) = _ from if_neg (by omega)]
      rw [vleaves_idle m c t 9 (idle_of t h1) (noflush_9 t h1), vleaves_idle m c t 10 (idle_of t h1) (noflush_10 t h1), vleaves_idle m c t 11 (idle_of t h1) (noflush_11 t h1), vleaves_idle m c t 12 (idle_of t h1) (noflush_12 t h1)]
      simp only [vbefore0_9, vbefore0_10, vbefore0_11, vbefore0_12]
      have hH' : Hd m c ((t.val + 1) / 5) = Hd m c (t.val / 5) := by rw [show (t.val + 1) / 5 = t.val / 5 by omega]
      rw [hH']
      iintro ⟨⟨⟨S0, S1, S2, ⟨%Y, %hY, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
      iapply (val_mid c (grid0.coords t) _ _ _ _ _ _ _ _ _ _ _ _ _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (Hd m c (t.val / 5)) Y Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [S0]; · iexact S0
      isplitl [S1]; · iexact S1
      isplitl [S2]; · iexact S2
      isplitl [S3]; · iexact S3
      iintro ⟨H0, H1, H2, H3, H4, H5, H6, H7, H8, H9, H10, H11, H12, S0, S1, S2, S3⟩
      isplitl [S0 S1 S2 S3 Hg]
      · isplitl [S0 S1 S2 S3]
        · isplitl [S0]; · iexact S0
          isplitl [S1]; · iexact S1
          isplitl [S2]; · iexact S2
          iexists _; isplitr; swap; · iexact S3
          ipureintro; exact rows_step m c t h1 Y hY
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The body obligation at every point. -/
theorem vbody_obligation (c : Dev nD) : BodyObligation (vdats (F := F) m 0 c) (defs₀ (F := F)) Variants.none () Set.univ := fun t => by
  rw [bigSep_W0, bigSep_W0, defs₀_row]
  exact triple_restated (vsound_body m c t) rfl .rfl fun _ => .rfl

set_option backward.isDefEq.respectTransparency.types false in
set_option maxHeartbeats 800000 in
/-- The launch: the whole program runs, each array at what its points leave and each other buffer at what the host lines make of it. -/
theorem vrun : θ_run defs (onTc (τ := τ) (main (F := F))) (s₀ m ρ) (Pipeline.FramePost cfgs (vdats m) 0 (Pipeline.afterTail₀ cfgs (vdats m) 0 (V0 m) [hostOps1])) :=
  Pipeline.θ_run_frame_around_track cfgs (vdats m) (0 : Fin 1) launch0 defs₀ Variants.none m ρ main
    (hbody := fun c => (vbody_obligation m c).loose) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hin := fun _ => .rfl) (hout := fun _ => .rfl)

end Cert.KernelIdeal.Hand

end
-- ==== Proof.SpecI.lean ====
module

public import proofs.«01_k».proof.Proof.LastKI
public import Idealize.ShloMosaic.Lib.ValueIdx
public import Idealize.ShloMosaic.Lib.ValueLayout
public import Idealize.ShloMosaic.PureOps.Ideal.Laws

@[expose] public section

set_option maxRecDepth 16384

noncomputable section

namespace Cert.KernelIdeal.Hand

open Idealize.ShloMosaic
open Cert.KernelIdeal

/-- A sum over `n * k` columns is the sum over the `n` blocks of `k` columns. -/
theorem sum_blocks {N : ℕ} (n k : ℕ) (hN : N = n * k) (f : Fin N → EReal) :
    ∑ i, f i = ∑ p : Fin n, ∑ j : Fin k, f ⟨k * p.val + j.val, by
      have h1 := p.isLt; have h2 := j.isLt
      have h3 : k * (p.val + 1) ≤ k * n := Nat.mul_le_mul_left k h1
      rw [hN, Nat.mul_comm n k]; rw [Nat.mul_add, Nat.mul_one] at h3; omega⟩ := by
  subst hN
  rw [← Fintype.sum_prod_type', ← Equiv.sum_comp finProdFinEquiv]
  refine Finset.sum_congr rfl fun x _ => congrArg f (Fin.ext ?_)
  show x.2.val + k * x.1.val = k * x.1.val + x.2.val
  omega

/-! ## One batch row's results, from the row's activations -/

/-- The mean of a row of 2560. -/
def mu (Y : Fin 384 → Fin 2560 → EReal) (r : Fin 384) : EReal := Ideal.div (∑ c, Y r c) (Ideal.ofBits .f32 0x45200000#32)

/-- The variance of a row of 2560 plus the small constant. -/
def va (Y : Fin 384 → Fin 2560 → EReal) (r : Fin 384) : EReal :=
  Ideal.div (∑ c, (Y r c - mu Y r) * (Y r c - mu Y r)) (Ideal.ofBits .f32 0x45200000#32) + Ideal.ofBits .f32 0x3727C5AC#32

/-- The normalised, scaled, shifted and masked entry. -/
def zz (l : BitVec 32) (Y : Fin 384 → Fin 2560 → EReal) (g b : Fin 2560 → EReal) (r : Fin 384) (c : Fin 2560) : EReal :=
  Scalar.select (Scalar.cmpi .slt (BitVec.ofNat 32 r.val) l) ((Y r c - mu Y r) * Ideal.rsqrt (va Y r) * g c + b c) (Ideal.ofBits .f32 0x00000000#32)

/-- The pooled mean over the rows. -/
def mm (l : BitVec 32) (Y : Fin 384 → Fin 2560 → EReal) (g b : Fin 2560 → EReal) (c : Fin 2560) : EReal :=
  Ideal.div (∑ r, zz l Y g b r c) (Scalar.sitofp (F := Ideal) .f32 l)

/-- The unit vector along a pooled mean `m`. -/
def ee (m : Fin 2560 → EReal) (c : Fin 2560) : EReal :=
  Ideal.div (m c) (max (Ideal.sqrt (∑ c, m c * m c)) (Ideal.ofBits .f32 0x2B8CBCCC#32))

/-- The greatest magnitude of a vector. -/
def am (e : Fin 2560 → EReal) : EReal := Finset.univ.fold max (Ideal.ofBits .f32 0xFF800000#32) fun c => max (e c) (-(e c))

/-- The quantisation scale of a vector. -/
def sc (e : Fin 2560 → EReal) : EReal :=
  Scalar.select (Ideal.cmp .oeq (am e) (Ideal.ofBits .f32 0x00000000#32)) (Ideal.ofBits .f32 0x3F800000#32) (Ideal.div (am e) (Ideal.ofBits .f32 0x42FE0000#32))

/-- The int8 code of an entry. -/
def co (e : Fin 2560 → EReal) (c : Fin 2560) : BitVec 8 :=
  Ideal.fptosi 8 (min (Ideal.ofBits .f32 0x42FE0000#32) (max (Ideal.ofBits .f32 0xC2FE0000#32) (Ideal.liftRound Ideal.roundHalfEven (Ideal.div (e c) (sc e)))))

/-! ## The kernel's layout operations at an index -/

section Layout
variable {α : Type}

/-- A vector as a column. -/
theorem col_apply (v : S384.Idx → α) (h) (r : Fin 384) (z : Fin 1) : shapeCast S384x1 v h (ix2 (n0 := 384) (n1 := 1) r z) = v (ix1 (n0 := 384) r) := by
  refine shapeCast_apply _ _ _ _ ?_
  rw [Shape.rowMajor_val_one, Shape.rowMajor_val_two]
  show r.val = r.val * 1 + z.val; omega

/-- A vector as a row. -/
theorem row_apply (v : S512.Idx → α) (h) (c : Fin 512) (z : Fin 1) : shapeCast S1x512 v h (ix2 (n0 := 1) (n1 := 512) z c) = v (ix1 (n0 := 512) c) := by
  refine shapeCast_apply _ _ _ _ ?_
  rw [Shape.rowMajor_val_one, Shape.rowMajor_val_two]
  show c.val = z.val * 512 + c.val; omega

/-- A single entry as a matrix. -/
theorem one_apply (v : S1.Idx → α) (h) (y z : Fin 1) : shapeCast S1x1 v h (ix2 (n0 := 1) (n1 := 1) y z) = v (ix1 (n0 := 1) 0) := by
  refine shapeCast_apply _ _ _ _ ?_
  rw [Shape.rowMajor_val_one, Shape.rowMajor_val_two]
  show 0 = y.val * 1 + z.val; omega

/-- A column spread over a panel. -/
theorem bcol_apply (x : S384x1.Idx → α) (h) (r : Fin 384) (c : Fin 512) : broadcastTo S384x512 x h (ix2 (n0 := 384) (n1 := 512) r c) = x (ix2 (n0 := 384) (n1 := 1) r 0) := by
  refine broadcastTo_apply _ _ _ _ ?_
  intro d; match d with
  | ⟨0, _⟩ => rfl
  | ⟨1, _⟩ => rfl

/-- A row spread over a panel. -/
theorem brow_apply (x : S1x512.Idx → α) (h) (r : Fin 384) (c : Fin 512) : broadcastTo S384x512 x h (ix2 (n0 := 384) (n1 := 512) r c) = x (ix2 (n0 := 1) (n1 := 512) 0 c) := by
  refine broadcastTo_apply _ _ _ _ ?_
  intro d; match d with
  | ⟨0, _⟩ => rfl
  | ⟨1, _⟩ => rfl

/-- A single entry spread over the channels. -/
theorem bone_apply (x : S1x1.Idx → α) (h) (y : Fin 1) (c : Fin 2560) : broadcastTo S1x2560 x h (ix2 (n0 := 1) (n1 := 2560) y c) = x (ix2 (n0 := 1) (n1 := 1) 0 0) := by
  refine broadcastTo_apply _ _ _ _ ?_
  intro d; match d with
  | ⟨0, _⟩ => rfl
  | ⟨1, _⟩ => rfl

/-- A single entry spread over the lanes. -/
theorem bone128_apply (x : S1x1.Idx → α) (h) (y : Fin 1) (c : Fin 128) : broadcastTo S1x128 x h (ix2 (n0 := 1) (n1 := 128) y c) = x (ix2 (n0 := 1) (n1 := 1) 0 0) := by
  refine broadcastTo_apply _ _ _ _ ?_
  intro d; match d with
  | ⟨0, _⟩ => rfl
  | ⟨1, _⟩ => rfl

/-- A leading unit axis dropped. -/
theorem drop_apply (x : S1x384x512.Idx → α) (h) (r : Fin 384) (c : Fin 512) :
    shapeCast S384x512 x h (ix2 (n0 := 384) (n1 := 512) r c) = x (ix3 (n0 := 1) (n1 := 384) (n2 := 512) 0 r c) := by
  refine shapeCast_apply _ _ _ _ ?_
  rw [Shape.rowMajor_val_three, Shape.rowMajor_val_two]
  show (0 * 384 + r.val) * 512 + c.val = r.val * 512 + c.val; omega

end Layout

/-! ## The kernel's reductions at an index -/

/-- The sum over a panel's columns. -/
theorem sumc_apply (v : FVec Ideal S384x512 .f32) (acc h hf hacc) (r : Fin 384) :
    multiReduction .add [1] S384 v acc h hf hacc (ix1 (n0 := 384) r) = ∑ c : Fin 512, v (ix2 (n0 := 384) (n1 := 512) r c) := by
  refine (Ideal.multiReduction_add_single _ _ _ _ _ _).trans ?_
  refine Finset.sum_congr rfl fun k _ => congrArg v ?_
  funext d; match d with
  | ⟨0, _⟩ => rfl
  | ⟨1, _⟩ => rfl

/-- The sum over a panel's rows. -/
theorem sumr_apply (v : FVec Ideal S384x512 .f32) (acc h hf hacc) (c : Fin 512) :
    multiReduction .add [0] S512 v acc h hf hacc (ix1 (n0 := 512) c) = ∑ r : Fin 384, v (ix2 (n0 := 384) (n1 := 512) r c) := by
  refine (Ideal.multiReduction_add_single _ _ _ _ _ _).trans ?_
  refine Finset.sum_congr rfl fun k _ => congrArg v ?_
  funext d; match d with
  | ⟨0, _⟩ => rfl
  | ⟨1, _⟩ => rfl

/-- The sum over the channels. -/
theorem sum2560_apply (v : FVec Ideal S1x2560 .f32) (acc h hf hacc) :
    multiReduction .add [1] S1 v acc h hf hacc (ix1 (n0 := 1) 0) = ∑ c : Fin 2560, v (ix2 (n0 := 1) (n1 := 2560) 0 c) := by
  refine (Ideal.multiReduction_add_single _ _ _ _ _ _).trans ?_
  refine Finset.sum_congr rfl fun k _ => congrArg v ?_
  funext d; match d with
  | ⟨0, _⟩ => rfl
  | ⟨1, _⟩ => rfl

/-- The maximum over the channels. -/
theorem max2560_apply (v : FVec Ideal S1x2560 .f32) (acc h hf hacc) :
    multiReduction .maximumf [1] S1 v acc h hf hacc (ix1 (n0 := 1) 0) = Finset.univ.fold max (Ideal.ofBits .f32 acc) fun c : Fin 2560 => v (ix2 (n0 := 1) (n1 := 2560) 0 c) := by
  refine (Ideal.multiReduction_maximumf_single _ _ _ _ _ _).trans ?_
  refine congrArg (Finset.fold max _ · _) ?_
  funext k; refine congrArg v ?_
  funext d; match d with
  | ⟨0, _⟩ => rfl
  | ⟨1, _⟩ => rfl

end Cert.KernelIdeal.Hand

end
-- ==== Proof.KerI.lean ====
module

public import proofs.«01_k».proof.Proof.SpecI

@[expose] public section

set_option maxRecDepth 16384

noncomputable section

namespace Cert.KernelIdeal.Hand

open Idealize.ShloMosaic
open Cert.KernelIdeal Cert.KernelIdeal.Gen

/-- The five panels as one row of 2560 columns. -/
def rowsOf (Y : Vec Ideal S5x384x512 .f32) (r : Fin 384) (c : Fin 2560) : EReal :=
  Y (ix3 (n0 := 5) (n1 := 384) (n2 := 512) ⟨c.val / 512, by have := c.isLt; omega⟩ r ⟨c.val % 512, Nat.mod_lt _ (by decide)⟩)

/-- A scale or shift row as a function of the column. -/
def lane (g : Vec Ideal S1x2560 .f32) (c : Fin 2560) : EReal := g (ix2 (n0 := 1) (n1 := 2560) 0 c)

/-- Column `j` of panel `p`. -/
def at5 (p : Fin 5) (j : Fin 512) : Fin 2560 := ⟨512 * p.val + j.val, by have := p.isLt; have := j.isLt; omega⟩

/-- Column `j` of panel `p`, as a number. -/
theorem at5_val (p : Fin 5) (j : Fin 512) : (at5 p j).val = 512 * p.val + j.val := rfl

/-- A row of the panels at column `j` of panel `p`. -/
theorem rowsOf_at5 (Y : Vec Ideal S5x384x512 .f32) (p : Fin 5) (r : Fin 384) (j : Fin 512) :
    rowsOf Y r (at5 p j) = Y (ix3 (n0 := 5) (n1 := 384) (n2 := 512) p r j) := by
  unfold rowsOf at5
  have hj := j.isLt
  congr 1
  funext d; apply Fin.ext
  match d with
  | ⟨0, _⟩ => show (512 * p.val + j.val) / 512 = p.val; omega
  | ⟨1, _⟩ => rfl
  | ⟨2, _⟩ => show (512 * p.val + j.val) % 512 = j.val; omega

/-- Each column is in its panel. -/
theorem at5_div (c : Fin 2560) : at5 ⟨c.val / 512, by have := c.isLt; omega⟩ ⟨c.val % 512, Nat.mod_lt _ (by decide)⟩ = c :=
  Fin.ext (by show 512 * (c.val / 512) + c.val % 512 = c.val; omega)

/-- A sum over the columns is the sum over the panels of their sums. -/
theorem sum_at5 (f : Fin 2560 → EReal) : ∑ c, f c = ∑ p : Fin 5, ∑ j : Fin 512, f (at5 p j) := sum_blocks 5 512 rfl f

/-- One panel's row sum. -/
theorem panel_sum (Y : Vec Ideal S5x384x512 .f32) (p : Fin 5) (h acc h2 hf hacc h3) (r : Fin 384) (z : Fin 1) :
    shapeCast S384x1 (multiReduction .add [1] S384 (shapeCast S384x512 (pan p Y) h) acc h2 hf hacc) h3 (ix2 (n0 := 384) (n1 := 1) r z)
      = ∑ j : Fin 512, rowsOf Y r (at5 p j) := by
  rw [col_apply, sumc_apply]
  refine Finset.sum_congr rfl fun j _ => ?_
  rw [drop_apply, rowsOf_at5]; rfl

/-- Five terms added to zero one by one. -/
theorem add5 {z a0 a1 a2 a3 a4 b0 b1 b2 b3 b4 : EReal} (hz : z = 0) (h0 : a0 = b0) (h1 : a1 = b1) (h2 : a2 = b2) (h3 : a3 = b3) (h4 : a4 = b4) :
    ((((z + a0) + a1) + a2) + a3) + a4 = b0 + b1 + b2 + b3 + b4 := by
  subst hz h0 h1 h2 h3 h4; rw [zero_add]

/-- The kernel's mean is the mean over all 2560 columns. -/
theorem MU_apply (Y : Vec Ideal S5x384x512 .f32) (r : Fin 384) : MU Y (ix2 (n0 := 384) (n1 := 1) r 0) = mu (rowsOf Y) r := by
  unfold MU k0_pay118 mu
  dsimp only
  show Ideal.div (((((Ideal.ofBits .f32 0x00000000#32 + shapeCast S384x1 _ _ _) + shapeCast S384x1 _ _ _) + shapeCast S384x1 _ _ _) + shapeCast S384x1 _ _ _)
    + shapeCast S384x1 _ _ _) (Ideal.ofBits .f32 0x45200000#32) = _
  congr 1
  rw [sum_at5, Fin.sum_univ_five]
  exact add5 Ideal.ofBits_zero_f32 (panel_sum Y 0 _ _ _ _ _ _ r 0) (panel_sum Y 1 _ _ _ _ _ _ r 0) (panel_sum Y 2 _ _ _ _ _ _ r 0)
    (panel_sum Y 3 _ _ _ _ _ _ r 0) (panel_sum Y 4 _ _ _ _ _ _ r 0)

/-- One panel's row sum of squared differences. -/
theorem panel_sq (Y : Vec Ideal S5x384x512 .f32) (p : Fin 5) (h hb acc h2 hf hacc h3) (r : Fin 384) (z : Fin 1) :
    shapeCast S384x1 (multiReduction .add [1] S384
        (mulf (subf (shapeCast S384x512 (pan p Y) h) (broadcastTo S384x512 (MU Y) hb)) (subf (shapeCast S384x512 (pan p Y) h) (broadcastTo S384x512 (MU Y) hb)))
        acc h2 hf hacc) h3 (ix2 (n0 := 384) (n1 := 1) r z)
      = ∑ j : Fin 512, (rowsOf Y r (at5 p j) - mu (rowsOf Y) r) * (rowsOf Y r (at5 p j) - mu (rowsOf Y) r) := by
  rw [col_apply, sumc_apply]
  refine Finset.sum_congr rfl fun j _ => ?_
  rw [ValueIdx.mulf_apply, ValueIdx.subf_apply, drop_apply, bcol_apply, MU_apply, rowsOf_at5]; rfl

/-- The kernel's variance is the variance over all 2560 columns. -/
theorem VA_apply (Y : Vec Ideal S5x384x512 .f32) (r : Fin 384) : VA Y (ix2 (n0 := 384) (n1 := 1) r 0) = va (rowsOf Y) r := by
  unfold VA k0_pay122 k0_pay119 k0_pay120 k0_pay121 va
  dsimp only
  show Ideal.div (((((Ideal.ofBits .f32 0x00000000#32 + shapeCast S384x1 _ _ _) + shapeCast S384x1 _ _ _) + shapeCast S384x1 _ _ _) + shapeCast S384x1 _ _ _)
    + shapeCast S384x1 _ _ _) (Ideal.ofBits .f32 0x45200000#32) + Ideal.ofBits .f32 0x3727C5AC#32 = _
  congr 2
  rw [sum_at5, Fin.sum_univ_five]
  exact add5 Ideal.ofBits_zero_f32 (panel_sq Y 0 _ _ _ _ _ _ _ r 0) (panel_sq Y 1 _ _ _ _ _ _ _ r 0) (panel_sq Y 2 _ _ _ _ _ _ _ r 0)
    (panel_sq Y 3 _ _ _ _ _ _ _ r 0) (panel_sq Y 4 _ _ _ _ _ _ _ r 0)

/-- The row numbers. -/
theorem iota_row (h) (r : Fin 384) (j : Fin 512) : iota .tc S384x512 32 [0] h (ix2 (n0 := 384) (n1 := 512) r j) = BitVec.ofNat 32 r.val := by
  show BitVec.ofNat 32 (0 * 384 + r.val) = _
  rw [Nat.zero_mul, Nat.zero_add]

/-- The kernel's normalised panel entry. -/
theorem ZP_apply (l : BitVec 32) (Y : Vec Ideal S5x384x512 .f32) (g b : Vec Ideal S1x2560 .f32) (p : Fin 5) (r : Fin 384) (j : Fin 512) :
    ZP l Y g b p (ix2 (n0 := 384) (n1 := 512) r j) = zz l (rowsOf Y) (lane g) (lane b) r (at5 p j) := by
  unfold ZP k0_pay126 k0_pay123 k0_pay124 zz
  dsimp only
  show Scalar.select (Scalar.cmpi .slt (iota .tc S384x512 32 [0] _ (ix2 (n0 := 384) (n1 := 512) r j)) l) (((shapeCast S384x512 (pan p Y) _ _ - broadcastTo S384x512 (MU Y) _ _) * broadcastTo S384x512 (rsqrt (VA Y)) _ _)
    * broadcastTo S384x512 (shapeCast S1x512 (gp p g) _) _ _ + broadcastTo S384x512 (shapeCast S1x512 (gp p b) _) _ _) (Ideal.ofBits .f32 0x00000000#32) = _
  rw [drop_apply, bcol_apply, bcol_apply, brow_apply, brow_apply, shapeCast_self, shapeCast_self, MU_apply, rowsOf_at5]
  rw [show rsqrt (VA Y) (ix2 (n0 := 384) (n1 := 1) r 0) = Ideal.rsqrt (VA Y (ix2 (n0 := 384) (n1 := 1) r 0)) from rfl, VA_apply, iota_row]
  rfl

/-- The masked rows that the kernel stores. -/
theorem ZM_apply (l : BitVec 32) (Y : Vec Ideal S5x384x512 .f32) (g b : Vec Ideal S1x2560 .f32) (z : Fin 1) (r : Fin 384) (c : Fin 2560) :
    ZM l Y g b (ix3 (n0 := 1) (n1 := 384) (n2 := 2560) z r c) = zz l (rowsOf Y) (lane g) (lane b) r c := by
  refine (ZP_apply l Y g b _ _ _).trans ?_
  exact congrArg (zz l (rowsOf Y) (lane g) (lane b) r) (at5_div c)

/-- The pooled mean of a panel's column. -/
theorem colmean_apply (l : BitVec 32) (Y : Vec Ideal S5x384x512 .f32) (g b : Vec Ideal S1x2560 .f32) (p : Fin 5) (acc h2 hf hacc h3) (z : Fin 1) (j : Fin 512) :
    divf (shapeCast S1x512 (multiReduction .add [0] S512 (ZP l Y g b p) acc h2 hf hacc) h3) (broadcast S1x512 (k0_pay125 (F := Ideal) l)) (ix2 (n0 := 1) (n1 := 512) z j)
      = mm l (rowsOf Y) (lane g) (lane b) (at5 p j) := by
  unfold mm
  rw [ValueIdx.divf_apply, row_apply, sumr_apply]
  refine congrArg₂ Ideal.div (Finset.sum_congr rfl fun r _ => ZP_apply l Y g b p r j) rfl

/-- The kernel's pooled mean. -/
theorem m_apply (l : BitVec 32) (Y : Vec Ideal S5x384x512 .f32) (g b : Vec Ideal S1x2560 .f32) (c : Fin 2560) :
    k0_pay143 (k0_pay125 (F := Ideal) l) (AV l Y g b 0) (AV l Y g b 1) (AV l Y g b 2) (AV l Y g b 3) (ZP l Y g b 4) (ix2 (n0 := 1) (n1 := 2560) 0 c)
      = mm l (rowsOf Y) (lane g) (lane b) c := by
  have hc := c.isLt
  have hav : ∀ p : Fin 5, ∀ z : Fin 1, ∀ j : Fin 512, AV l Y g b p (ix2 (n0 := 1) (n1 := 512) z j) = mm l (rowsOf Y) (lane g) (lane b) (at5 p j) := fun p z j => colmean_apply l Y g b p _ _ _ _ _ z j
  unfold k0_pay143
  dsimp only
  have step : ∀ (k : ℕ) (hk : k < 5) (x : FVec Ideal S1x512 .f32) (xs : List ((s : Shape) × (s.Idx → EReal))) (hl : xs.length = 5)
      (hx : xs[k]'(by omega) = ⟨S1x512, x⟩) (hpre : (((xs.take k).map (·.1)).map fun s => if h : s.rank = S1x2560.rank then s.size ((1 : Fin S1x2560.rank).cast h.symm) else 0).sum = 512 * k)
      (hv : ∀ j : Fin 512, x (ix2 (n0 := 1) (n1 := 512) 0 j) = mm l (rowsOf Y) (lane g) (lane b) (at5 ⟨k, hk⟩ j)) (h) (hck : c.val / 512 = k),
      concatenate S1x2560 1 xs h (ix2 (n0 := 1) (n1 := 2560) 0 c) = mm l (rowsOf Y) (lane g) (lane b) c := by
    intro k hk x xs hl hx hpre hv h hck
    refine (concatenate_apply_piece (t := S1x2560) 1 xs h _ k (by omega) S1x512 x hx rfl (512 * k) hpre (ix2 (n0 := 1) (n1 := 512) 0 ⟨c.val % 512, Nat.mod_lt _ (by decide)⟩) ?_ ?_).trans ?_
    · intro d hd
      match d with
      | ⟨0, _⟩ => rfl
      | ⟨1, _⟩ => exact absurd rfl hd
    · show 512 * k + c.val % 512 = c.val; omega
    · rw [hv]; congr 1; apply Fin.ext; show 512 * k + c.val % 512 = c.val; omega
  have hq : c.val / 512 = 0 ∨ c.val / 512 = 1 ∨ c.val / 512 = 2 ∨ c.val / 512 = 3 ∨ c.val / 512 = 4 := by omega
  rcases hq with hq | hq | hq | hq | hq
  · exact step 0 (by decide) _ _ rfl rfl rfl (fun j => hav 0 0 j) _ hq
  · exact step 1 (by decide) _ _ rfl rfl rfl (fun j => hav 1 0 j) _ hq
  · exact step 2 (by decide) _ _ rfl rfl rfl (fun j => hav 2 0 j) _ hq
  · exact step 3 (by decide) _ _ rfl rfl rfl (fun j => hav 3 0 j) _ hq
  · exact step 4 (by decide) _ _ rfl rfl rfl (fun j => colmean_apply l Y g b 4 _ _ _ _ _ 0 j) _ hq

section Tail
variable (l : BitVec 32) (Y : Vec Ideal S5x384x512 .f32) (g b : Vec Ideal S1x2560 .f32)

/-- The stored pooled mean. -/
theorem PM_apply (y z : Fin 1) (c : Fin 2560) : PM l Y g b (ix3 (n0 := 1) (n1 := 1) (n2 := 2560) y z c) = mm l (rowsOf Y) (lane g) (lane b) c := by
  unfold PM k0_pay146
  refine (shapeCast_apply _ _ _ (ix2 (n0 := 1) (n1 := 2560) 0 c) ?_).trans (m_apply l Y g b c)
  rw [Shape.rowMajor_val_three, Shape.rowMajor_val_two]
  show 0 * 2560 + c.val = (y.val * 1 + z.val) * 2560 + c.val; omega

/-- The kernel's unit vector. -/
theorem e_apply (c : Fin 2560) :
    k0_pay144 (k0_pay125 (F := Ideal) l) (AV l Y g b 0) (AV l Y g b 1) (AV l Y g b 2) (AV l Y g b 3) (ZP l Y g b 4) (ix2 (n0 := 1) (n1 := 2560) 0 c)
      = ee (mm l (rowsOf Y) (lane g) (lane b)) c := by
  unfold k0_pay144 ee
  dsimp only
  rw [ValueIdx.divf_apply, m_apply, bone_apply]
  refine congrArg (Ideal.div _) ?_
  show max (Ideal.sqrt (shapeCast S1x1 _ _ _)) (Ideal.ofBits .f32 0x2B8CBCCC#32) = _
  rw [one_apply]
  refine congrArg (fun t => max (Ideal.sqrt t) _) ((sum2560_apply _ _ _ _ _).trans (Finset.sum_congr rfl fun k _ => ?_))
  rw [ValueIdx.mulf_apply, m_apply]

/-- The scale from the largest magnitude. -/
theorem sc_of {A : EReal} {e : Fin 2560 → EReal} (h : A = am e) :
    Scalar.select (Ideal.cmp .oeq A (Ideal.ofBits .f32 0x00000000#32)) (Ideal.ofBits .f32 0x3F800000#32) (Ideal.div A (Ideal.ofBits .f32 0x42FE0000#32)) = sc e := by
  subst h; rfl

/-- The kernel's scale. -/
theorem s_apply (y z : Fin 1) :
    k0_pay145 (k0_pay125 (F := Ideal) l) (AV l Y g b 0) (AV l Y g b 1) (AV l Y g b 2) (AV l Y g b 3) (ZP l Y g b 4) (ix2 (n0 := 1) (n1 := 1) y z)
      = sc (ee (mm l (rowsOf Y) (lane g) (lane b))) := by
  unfold k0_pay145
  dsimp only
  show Scalar.select (Ideal.cmp .oeq (shapeCast S1x1 _ _ _) (Ideal.ofBits .f32 0x00000000#32)) (Ideal.ofBits .f32 0x3F800000#32)
    (Ideal.div (shapeCast S1x1 _ _ _) (Ideal.ofBits .f32 0x42FE0000#32)) = _
  rw [one_apply]
  refine sc_of ((max2560_apply _ _ _ _ _).trans ?_)
  unfold am
  refine congrArg (Finset.fold max _ · _) (funext fun c => ?_)
  show max (k0_pay144 _ _ _ _ _ _ _) (-(k0_pay144 _ _ _ _ _ _ _)) = _
  rw [e_apply]

/-- The kernel's code at an index. -/
theorem code_of {s : Shape} (E S : FVec Ideal s .f32) (i : s.Idx) :
    fptosi 8 (minimumf (broadcast s (Scalar.ofBits (F := Ideal) .f32 0x42FE0000#32)) (maximumf (broadcast s (Scalar.ofBits (F := Ideal) .f32 0xC2FE0000#32)) (roundeven (divf E S)))) i
      = Ideal.fptosi 8 (min (Ideal.ofBits .f32 0x42FE0000#32) (max (Ideal.ofBits .f32 0xC2FE0000#32) (Ideal.liftRound Ideal.roundHalfEven (Ideal.div (E i) (S i))))) := rfl

/-- The stored codes. -/
theorem CO_apply (y z : Fin 1) (c : Fin 2560) : CO l Y g b (ix3 (n0 := 1) (n1 := 1) (n2 := 2560) y z c) = co (ee (mm l (rowsOf Y) (lane g) (lane b))) c := by
  unfold CO k0_pay147
  refine (shapeCast_apply _ _ _ (ix2 (n0 := 1) (n1 := 2560) 0 c) ?_).trans ?_
  · rw [Shape.rowMajor_val_three, Shape.rowMajor_val_two]
    show 0 * 2560 + c.val = (y.val * 1 + z.val) * 2560 + c.val; omega
  refine (code_of _ _ _).trans ?_
  rw [e_apply, bone_apply, s_apply]
  rfl

/-- The stored scale. -/
theorem SC_apply (y z : Fin 1) (c : Fin 128) : SC l Y g b (ix3 (n0 := 1) (n1 := 1) (n2 := 128) y z c) = sc (ee (mm l (rowsOf Y) (lane g) (lane b))) := by
  unfold SC k0_pay4 k0_pay148
  refine (shapeCast_apply _ _ _ (ix2 (n0 := 1) (n1 := 128) 0 c) ?_).trans ?_
  · rw [Shape.rowMajor_val_three, Shape.rowMajor_val_two]
    show 0 * 128 + c.val = (y.val * 1 + z.val) * 128 + c.val; omega
  rw [bone128_apply, shapeCast_self, s_apply]

end Tail

end Cert.KernelIdeal.Hand

end
-- ==== Proof.PanI.lean ====
module

public import proofs.«01_k».proof.Proof.KerI
public import proofs.«01_k».proof.Proof.LoopKI

@[expose] public section

set_option maxRecDepth 16384

noncomputable section

namespace Cert.KernelIdeal.Hand

open Idealize.ShloMosaic
open Cert.KernelIdeal Cert.KernelIdeal.Gen

/-! ## The four results as functions of the nine arguments -/

section Spec
variable (X : Vec Ideal S5x384x2560 .bf16) (HC : Vec Ideal S5x384x9728 .fp8e4m3) (HS : Vec Ideal S5x384x76 .f32) (W : Vec Ideal S9728x2560 .fp8e4m3)
  (WS : Vec Ideal S76x20 .f32) (B G BE : Vec Ideal S2560 .f32) (L : Vec Ideal S5 .i32)

/-- One product of the contraction: a dequantised activation times a dequantised weight. -/
def prod (b : Fin 5) (r : Fin 384) (c : Fin 2560) (k : Fin 9728) : EReal :=
  (HC (ix3 (n0 := 5) (n1 := 384) (n2 := 9728) b r k) * HS (ix3 (n0 := 5) (n1 := 384) (n2 := 76) b r ⟨k.val / 128, by have := k.isLt; omega⟩))
    * (W (ix2 (n0 := 9728) (n1 := 2560) k c) * WS (ix2 (n0 := 76) (n1 := 20) ⟨k.val / 128, by have := k.isLt; omega⟩ ⟨c.val / 128, by have := c.isLt; omega⟩))

/-- The residual stream before the normalisation. -/
def YS (b : Fin 5) (r : Fin 384) (c : Fin 2560) : EReal :=
  (X (ix3 (n0 := 5) (n1 := 384) (n2 := 2560) b r c) + ∑ k, prod HC HS W WS b r c k) + B (ix1 (n0 := 2560) c)

/-- A vector of 2560 as a function of the column. -/
def vec (g : Vec Ideal S2560 .f32) (c : Fin 2560) : EReal := g (ix1 (n0 := 2560) c)

/-- The masked normalised activations. -/
def RZ : Vec Ideal S5x384x2560 .f32 := fun i => zz (L (ix1 (n0 := 5) (i 0))) (YS X HC HS W WS B (i 0)) (vec G) (vec BE) (i 1) (i 2)

/-- One batch row's pooled mean. -/
def MS (b : Fin 5) : Fin 2560 → EReal := mm (L (ix1 (n0 := 5) b)) (YS X HC HS W WS B b) (vec G) (vec BE)

/-- The pooled means. -/
def RM : Vec Ideal S5x2560 .f32 := fun i => MS X HC HS W WS B G BE L (i 0) (i 1)

/-- The int8 codes of the unit vectors along the pooled means. -/
def RC : Vec Ideal S5x2560 .i8 := fun i => co (ee (MS X HC HS W WS B G BE L (i 0))) (i 1)

/-- Their scales. -/
def RS : Vec Ideal S5 .f32 := fun i => sc (ee (MS X HC HS W WS B G BE L (i 0)))

end Spec

/-! ## A finished panel's entry -/

/-- One chunk's product at an entry is the sum over its 512 inner columns. -/
theorem dot512 (lhs : FVec Ideal S384x512 .bf16) (rhs : FVec Ideal S512x512 .bf16) (r : Fin 384) (j : Fin 512) :
    matmul dot_S384x512_S512x512_S384x512_1_0_0_1_n_n none lhs rhs (constant S384x512 .f32 0x00000000#32) (ix2 (n0 := 384) (n1 := 512) r j)
      = ∑ q : Fin 512, lhs (ix2 (n0 := 384) (n1 := 512) r q) * rhs (ix2 (n0 := 512) (n1 := 512) q j) := by
  refine (Ideal.matmul_constant_zero_apply dot_S384x512_S512x512_S384x512_1_0_0_1_n_n none lhs rhs (ix2 (n0 := 384) (n1 := 512) r j)).trans ?_
  rw [← Equiv.sum_comp (ValueIdx.contrEquiv1 dot_S384x512_S512x512_S384x512_1_0_0_1_n_n 512 rfl rfl).symm]
  refine Finset.sum_congr rfl fun q _ => congrArg₂ (· * ·) (congrArg lhs ?_) (congrArg rhs ?_)
  · funext d; match d with
    | ⟨0, _⟩ => rfl
    | ⟨1, _⟩ => rfl
  · funext d; match d with
    | ⟨0, _⟩ => rfl
    | ⟨1, _⟩ => rfl

/-- An inner column of a chunk. -/
def at19 (k : Fin 19) (q : Fin 512) : Fin 9728 := ⟨512 * k.val + q.val, by have := k.isLt; have := q.isLt; omega⟩

/-- The panel after `k` steps: the start plus the first `k` chunks' products. -/
theorem accPanel_apply (n : Fin 5) (ws : Vec Ideal S20x76 .f32) (w : Vec Ideal S9728x512 .fp8e4m3) (hd : Vec Ideal S384x9728 .bf16) (A : FVec Ideal S384x512 .f32)
    (r : Fin 384) (j : Fin 512) (T : Fin 9728 → EReal)
    (hT : ∀ (k : Fin 19) (q : Fin 512), hd (ix2 (n0 := 384) (n1 := 9728) r (at19 k q)) * WD n.val k.val n.isLt k.isLt ws w (ix2 (n0 := 512) (n1 := 512) q j) = T (at19 k q)) :
    ∀ k (hk : k ≤ 19), accPanel n ws w hd A k (ix2 (n0 := 384) (n1 := 512) r j)
      = A (ix2 (n0 := 384) (n1 := 512) r j) + ∑ i : Fin k, ∑ q : Fin 512, T (at19 (i.castLE hk) q) := by
  intro k
  induction k with
  | zero => intro hk; rw [accPanel_zero, Fin.sum_univ_zero, add_zero]
  | succ k ih =>
    intro hk
    rw [accPanel_succ, dif_pos (show k < 19 from hk), Fin.sum_univ_castSucc, ← add_assoc]
    refine congrArg₂ (· + ·) (ih (by omega)) ((dot512 _ _ r j).trans (Finset.sum_congr rfl fun q _ => hT ⟨k, hk⟩ q))

/-- A finished panel's entry: the start plus the whole contraction. -/
theorem accPanel_19 (n : Fin 5) (ws : Vec Ideal S20x76 .f32) (w : Vec Ideal S9728x512 .fp8e4m3) (hd : Vec Ideal S384x9728 .bf16) (A : FVec Ideal S384x512 .f32)
    (r : Fin 384) (j : Fin 512) (T : Fin 9728 → EReal)
    (hT : ∀ (k : Fin 19) (q : Fin 512), hd (ix2 (n0 := 384) (n1 := 9728) r (at19 k q)) * WD n.val k.val n.isLt k.isLt ws w (ix2 (n0 := 512) (n1 := 512) q j) = T (at19 k q)) :
    accPanel n ws w hd A 19 (ix2 (n0 := 384) (n1 := 512) r j) = A (ix2 (n0 := 384) (n1 := 512) r j) + ∑ k, T k := by
  rw [accPanel_apply n ws w hd A r j T hT 19 le_rfl, sum_blocks 19 512 rfl T]
  rfl

end Cert.KernelIdeal.Hand

end
-- ==== Proof.BlkI.lean ====
module

public import proofs.«01_k».proof.Proof.ValueKI
public import proofs.«01_k».proof.Proof.PanI
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- The grid has 25 points. -/
theorem N25 (t : Fin cfg0.N) : t.val < 25 := lt_of_lt_of_eq t.isLt (show cfg0.N = 25 from N_0)

/-! ## Where each window's block lies -/

/-- Where the block of the lengths lies at a grid point. -/
theorem index_0 : ∀ t : Fin cfg0.N, win0_0.index t = ![0] := by decide +kernel
/-- Where the block of the weight scales lies at a grid point. -/
theorem index_1 : ∀ t : Fin cfg0.N, win0_1.index t = ![0, 0] := by decide +kernel
/-- Where the block of the hidden codes lies at a grid point. -/
theorem index_2 : ∀ t : Fin cfg0.N, win0_2.index t = ![t.val / 5, 0, 0] := by decide +kernel
/-- Where the block of the hidden scales lies at a grid point. -/
theorem index_3 : ∀ t : Fin cfg0.N, win0_3.index t = ![t.val / 5, 0, 0] := by decide +kernel
/-- Where the block of the weight codes lies at a grid point. -/
theorem index_4 : ∀ t : Fin cfg0.N, win0_4.index t = ![0, t.val % 5] := by decide +kernel
/-- Where the block of x lies at a grid point. -/
theorem index_5 : ∀ t : Fin cfg0.N, win0_5.index t = ![t.val / 5, 0, t.val % 5] := by decide +kernel
/-- Where the block of the bias lies at a grid point. -/
theorem index_6 : ∀ t : Fin cfg0.N, win0_6.index t = ![0, t.val % 5] := by decide +kernel
/-- Where the block of the layer norm gain lies at a grid point. -/
theorem index_7 : ∀ t : Fin cfg0.N, win0_7.index t = ![0, 0] := by decide +kernel
/-- Where the block of the layer norm offset lies at a grid point. -/
theorem index_8 : ∀ t : Fin cfg0.N, win0_8.index t = ![0, 0] := by decide +kernel
/-- Where the block of the masked rows lies at a grid point. -/
theorem index_9 : ∀ t : Fin cfg0.N, win0_9.index t = ![t.val / 5, 0, 0] := by decide +kernel
/-- Where the block of the pooled mean lies at a grid point. -/
theorem index_10 : ∀ t : Fin cfg0.N, win0_10.index t = ![t.val / 5, 0, 0] := by decide +kernel
/-- Where the block of the codes lies at a grid point. -/
theorem index_11 : ∀ t : Fin cfg0.N, win0_11.index t = ![t.val / 5, 0, 0] := by decide +kernel
/-- Where the block of the repeated scale lies at a grid point. -/
theorem index_12 : ∀ t : Fin cfg0.N, win0_12.index t = ![t.val / 5, 0, 0] := by decide +kernel

/-! ## Each input block's entries -/

/-- An entry of the block of the lengths, in its array. -/
theorem blk_0 (c : Dev nD) (t : Fin cfg0.N) (b : Fin 5) : (iblk m c 0 t : Vec F S5 .i32) (ix1 (n0 := 5) b) = V m c main_arg8 (ix1 (n0 := 5) b) := by
  blk_ext [iblk, index_0 t]

/-- An entry of the block of the weight scales, in its array. -/
theorem blk_1 (c : Dev nD) (t : Fin cfg0.N) (i : Fin 20) (j : Fin 76) : (iblk m c 1 t : Vec F S20x76 .f32) (ix2 (n0 := 20) (n1 := 76) i j) = V m c main_v0 (ix2 (n0 := 20) (n1 := 76) i j) := by
  blk_ext [iblk, index_1 t]

/-- An entry of the block of the hidden codes, in its array. -/
theorem blk_2 (c : Dev nD) (t : Fin cfg0.N) (z : Fin 1) (r : Fin 384) (k : Fin 9728) : (iblk m c 2 t : Vec F S1x384x9728 .fp8e4m3) (ix3 (n0 := 1) (n1 := 384) (n2 := 9728) z r k) = V m c main_arg1 (ix3 (n0 := 5) (n1 := 384) (n2 := 9728) ⟨t.val / 5, by have := N25 t; omega⟩ r k) := by
  blk_ext [iblk, index_2 t]

/-- An entry of the block of the hidden scales, in its array. -/
theorem blk_3 (c : Dev nD) (t : Fin cfg0.N) (z : Fin 1) (k : Fin 76) (r : Fin 384) : (iblk m c 3 t : Vec F S1x76x384 .f32) (ix3 (n0 := 1) (n1 := 76) (n2 := 384) z k r) = V m c main_v1 (ix3 (n0 := 5) (n1 := 76) (n2 := 384) ⟨t.val / 5, by have := N25 t; omega⟩ k r) := by
  blk_ext [iblk, index_3 t]

/-- An entry of the block of the weight codes, in its array. -/
theorem blk_4 (c : Dev nD) (t : Fin cfg0.N) (k : Fin 9728) (j : Fin 512) : (iblk m c 4 t : Vec F S9728x512 .fp8e4m3) (ix2 (n0 := 9728) (n1 := 512) k j) = V m c main_arg3 (ix2 (n0 := 9728) (n1 := 2560) k (at5 ⟨t.val % 5, by omega⟩ j)) := by
  blk_ext [iblk, index_4 t, at5_val]

/-- An entry of the block of x, in its array. -/
theorem blk_5 (c : Dev nD) (t : Fin cfg0.N) (z : Fin 1) (r : Fin 384) (j : Fin 512) : (iblk m c 5 t : Vec F S1x384x512 .bf16) (ix3 (n0 := 1) (n1 := 384) (n2 := 512) z r j) = V m c main_arg0 (ix3 (n0 := 5) (n1 := 384) (n2 := 2560) ⟨t.val / 5, by have := N25 t; omega⟩ r (at5 ⟨t.val % 5, by omega⟩ j)) := by
  blk_ext [iblk, index_5 t, at5_val]

/-- An entry of the block of the bias, in its array. -/
theorem blk_6 (c : Dev nD) (t : Fin cfg0.N) (z : Fin 1) (j : Fin 512) : (iblk m c 6 t : Vec F S1x512 .f32) (ix2 (n0 := 1) (n1 := 512) z j) = V m c main_v2 (ix2 (n0 := 1) (n1 := 2560) 0 (at5 ⟨t.val % 5, by omega⟩ j)) := by
  blk_ext [iblk, index_6 t, at5_val]

/-- An entry of the block of the layer norm gain, in its array. -/
theorem blk_7 (c : Dev nD) (t : Fin cfg0.N) (z : Fin 1) (j : Fin 2560) : (iblk m c 7 t : Vec F S1x2560 .f32) (ix2 (n0 := 1) (n1 := 2560) z j) = V m c main_v3 (ix2 (n0 := 1) (n1 := 2560) 0 j) := by
  blk_ext [iblk, index_7 t]

/-- An entry of the block of the layer norm offset, in its array. -/
theorem blk_8 (c : Dev nD) (t : Fin cfg0.N) (z : Fin 1) (j : Fin 2560) : (iblk m c 8 t : Vec F S1x2560 .f32) (ix2 (n0 := 1) (n1 := 2560) z j) = V m c main_v4 (ix2 (n0 := 1) (n1 := 2560) 0 j) := by
  blk_ext [iblk, index_8 t]

/-! ## The buffers the host line makes -/

/-- The first host buffer is the weight scales, transposed. -/
theorem V_v0 (c : Dev nD) (i : Fin 20) (j : Fin 76) : V m c main_v0 (ix2 (n0 := 20) (n1 := 76) i j) = m ((c : Thread nD τ).loc main_arg4) (ix2 (n0 := 76) (n1 := 20) j i) := by
  entry_read
  refine transpose_apply _ _ _ _ _ ?_
  intro b; match b with
  | ⟨0, _⟩ => rfl
  | ⟨1, _⟩ => rfl

/-- The second host buffer is the hidden scales, transposed in each row. -/
theorem V_v1 (c : Dev nD) (b : Fin 5) (k : Fin 76) (r : Fin 384) :
    V m c main_v1 (ix3 (n0 := 5) (n1 := 76) (n2 := 384) b k r) = m ((c : Thread nD τ).loc main_arg2) (ix3 (n0 := 5) (n1 := 384) (n2 := 76) b r k) := by
  entry_read
  refine transpose_apply _ _ _ _ _ ?_
  intro b; match b with
  | ⟨0, _⟩ => rfl
  | ⟨1, _⟩ => rfl
  | ⟨2, _⟩ => rfl

/-- The third host buffer is the bias as a row. -/
theorem V_v2 (c : Dev nD) (j : Fin 2560) : V m c main_v2 (ix2 (n0 := 1) (n1 := 2560) 0 j) = m ((c : Thread nD τ).loc main_arg5) (ix1 (n0 := 2560) j) := by
  entry_read
  refine shapeCast_apply _ _ _ _ ?_
  show (S2560.rowMajor (ix1 (n0 := 2560) j)).val = (S1x2560.rowMajor (ix2 (n0 := 1) (n1 := 2560) 0 j)).val
  rw [Shape.rowMajor_val_one, Shape.rowMajor_val_two]
  show j.val = 0 * 2560 + j.val; omega

/-- The fourth host buffer is the gain as a row. -/
theorem V_v3 (c : Dev nD) (j : Fin 2560) : V m c main_v3 (ix2 (n0 := 1) (n1 := 2560) 0 j) = m ((c : Thread nD τ).loc main_arg6) (ix1 (n0 := 2560) j) := by
  entry_read
  refine shapeCast_apply _ _ _ _ ?_
  show (S2560.rowMajor (ix1 (n0 := 2560) j)).val = (S1x2560.rowMajor (ix2 (n0 := 1) (n1 := 2560) 0 j)).val
  rw [Shape.rowMajor_val_one, Shape.rowMajor_val_two]
  show j.val = 0 * 2560 + j.val; omega

/-- The fifth host buffer is the offset as a row. -/
theorem V_v4 (c : Dev nD) (j : Fin 2560) : V m c main_v4 (ix2 (n0 := 1) (n1 := 2560) 0 j) = m ((c : Thread nD τ).loc main_arg7) (ix1 (n0 := 2560) j) := by
  entry_read
  refine shapeCast_apply _ _ _ _ ?_
  show (S2560.rowMajor (ix1 (n0 := 2560) j)).val = (S1x2560.rowMajor (ix2 (n0 := 1) (n1 := 2560) 0 j)).val
  rw [Shape.rowMajor_val_one, Shape.rowMajor_val_two]
  show j.val = 0 * 2560 + j.val; omega

end Cert.KernelIdeal.Hand

end
-- ==== Proof.ArrI.lean ====
module

public import proofs.«01_k».proof.Proof.BlkI

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI Idealize.SL.Sem
open Idealize.ShloMosaic.Pipeline (Dat Cfg Window)
open Cert.KernelIdeal Cert.KernelIdeal.Gen

variable (m : (ℓ : Loc nD τ sig) → Buf (Elt Ideal) ℓ)

/-! ## The arguments as launched -/

/-- The activations x, of the launch. -/
abbrev a0 (c : Dev nD) : Vec Ideal S5x384x2560 .bf16 := m ((c : Thread nD τ).loc main_arg0)
/-- The hidden codes, of the launch. -/
abbrev a1 (c : Dev nD) : Vec Ideal S5x384x9728 .fp8e4m3 := m ((c : Thread nD τ).loc main_arg1)
/-- The hidden scales, of the launch. -/
abbrev a2 (c : Dev nD) : Vec Ideal S5x384x76 .f32 := m ((c : Thread nD τ).loc main_arg2)
/-- The weight codes, of the launch. -/
abbrev a3 (c : Dev nD) : Vec Ideal S9728x2560 .fp8e4m3 := m ((c : Thread nD τ).loc main_arg3)
/-- The weight scales, of the launch. -/
abbrev a4 (c : Dev nD) : Vec Ideal S76x20 .f32 := m ((c : Thread nD τ).loc main_arg4)
/-- The bias, of the launch. -/
abbrev a5 (c : Dev nD) : Vec Ideal S2560 .f32 := m ((c : Thread nD τ).loc main_arg5)
/-- The layer norm gain, of the launch. -/
abbrev a6 (c : Dev nD) : Vec Ideal S2560 .f32 := m ((c : Thread nD τ).loc main_arg6)
/-- The layer norm offset, of the launch. -/
abbrev a7 (c : Dev nD) : Vec Ideal S2560 .f32 := m ((c : Thread nD τ).loc main_arg7)
/-- The lengths, of the launch. -/
abbrev a8 (c : Dev nD) : Vec Ideal S5 .i32 := m ((c : Thread nD τ).loc main_arg8)

/-- The activations before the normalisation, of the launch's arguments. -/
def YA (c : Dev nD) : Fin 5 → Fin 384 → Fin 2560 → EReal :=
  YS (a0 m c) (a1 m c) (a2 m c) (a3 m c)
    (a4 m c) (a5 m c)

/-- The dequantised activations: each code times its block's scale. -/
theorem hd_entry (c : Dev nD) (b : Fin 5) (r : Fin 384) (k : Fin 9728) :
    Hd m c b.val (ix2 (n0 := 384) (n1 := 9728) r k)
      = a1 m c (ix3 (n0 := 5) (n1 := 384) (n2 := 9728) b r k)
        * a2 m c (ix3 (n0 := 5) (n1 := 384) (n2 := 76) b r ⟨k.val / 128, by have := k.isLt; omega⟩) := by
  have hb := b.isLt
  have hp : (pt (5 * b.val)).val / 5 = b.val := by show (5 * b.val) % 25 / 5 = b.val; omega
  have e : (⟨(pt (5 * b.val)).val / 5, by have := N25 (pt (5 * b.val)); omega⟩ : Fin 5) = b := Fin.ext hp
  refine (congrArg₂ (fun x y : EReal => x * y) (blk_2 m c (pt (5 * b.val)) 0 r k) ((blk_3 m c (pt (5 * b.val)) 0 ⟨k.val / 128, by have := k.isLt; omega⟩ r).trans (V_v1 m c _ _ _))).trans ?_
  rw [e, V_main_arg1]

/-- The dequantised weights: each code times its block's scale. -/
theorem wd_entry (c : Dev nD) (t : Fin cfg0.N) (k : Fin 19) (q j : Fin 512) :
    WD (nOf (grid0.coords t)).val k.val (nOf (grid0.coords t)).isLt k.isLt (iblk m c 1 t) (iblk m c 4 t) (ix2 (n0 := 512) (n1 := 512) q j)
      = a3 m c (ix2 (n0 := 9728) (n1 := 2560) (at19 k q) (at5 ⟨t.val % 5, by omega⟩ j))
        * a4 m c (ix2 (n0 := 76) (n1 := 20) ⟨(at19 k q).val / 128, by have := (at19 k q).isLt; omega⟩
            ⟨(at5 ⟨t.val % 5, by omega⟩ j).val / 128, by have := (at5 ⟨t.val % 5, by omega⟩ j).isLt; omega⟩) := by
  have hn := nOf_coords t
  have hq := q.isLt
  have hj := j.isLt
  refine (congrArg₂ (fun x y : EReal => x * y) (blk_4 m c t (at19 k q) j) ((blk_1 m c t ⟨4 * (nOf (grid0.coords t)).val + j.val / 128, by omega⟩
    ⟨4 * k.val + q.val / 128, by have := k.isLt; omega⟩).trans (V_v0 m c _ _))).trans ?_
  rw [V_main_arg3]
  refine congrArg₂ (fun x y : EReal => x * y) rfl (congrArg _ ?_)
  funext d; apply Fin.ext
  match d with
  | ⟨0, _⟩ => show 4 * k.val + q.val / 128 = (512 * k.val + q.val) / 128; omega
  | ⟨1, _⟩ => show 4 * (nOf (grid0.coords t)).val + j.val / 128 = (512 * (t.val % 5) + j.val) / 128; rw [hn]; omega

/-- A panel's start: x plus the bias. -/
theorem xb_entry (c : Dev nD) (t : Fin cfg0.N) (r : Fin 384) (j : Fin 512) :
    xb (F := Ideal) (iblk m c 5 t) (iblk m c 6 t) (ix2 (n0 := 384) (n1 := 512) r j)
      = a0 m c (ix3 (n0 := 5) (n1 := 384) (n2 := 2560) ⟨t.val / 5, by have := N25 t; omega⟩ r (at5 ⟨t.val % 5, by omega⟩ j))
        + a5 m c (ix1 (n0 := 2560) (at5 ⟨t.val % 5, by omega⟩ j)) := by
  unfold xb
  refine congrArg₂ (fun x y : EReal => x + y) ?_ ?_
  · exact (drop_apply _ _ r j).trans ((blk_5 m c t 0 r j).trans (congrFun (V_main_arg0 m c) _))
  · exact (brow_apply _ _ r j).trans ((congrFun (shapeCast_self _ _) _).trans ((blk_6 m c t 0 j).trans (V_v2 m c _)))

/-- A finished panel's entry is the activation before the normalisation. -/
theorem PV_entry (c : Dev nD) (t : Fin cfg0.N) (r : Fin 384) (j : Fin 512) :
    PV m c t (ix2 (n0 := 384) (n1 := 512) r j) = YA m c ⟨t.val / 5, by have := N25 t; omega⟩ r (at5 ⟨t.val % 5, by omega⟩ j) := by
  unfold PV
  rw [accPanel_19 _ _ _ _ _ r j (prod (a1 m c) (a2 m c) (a3 m c)
    (a4 m c) ⟨t.val / 5, by have := N25 t; omega⟩ r (at5 ⟨t.val % 5, by omega⟩ j))
    (fun k q => congrArg₂ (fun x y : EReal => x * y) (hd_entry m c ⟨t.val / 5, by have := N25 t; omega⟩ r (at19 k q)) (wd_entry m c t k q j)), xb_entry]
  exact add_right_comm _ _ _

/-- The panels of a batch row are its columns before the norm. -/
theorem rowsOf_Y5 (c : Dev nD) (b : Fin 5) : rowsOf (Y5 m c b.val) = YA m c b := by
  funext r col
  have hb := b.isLt
  have hc := col.isLt
  refine (PV_entry m c (pt (5 * b.val + col.val / 512)) r ⟨col.val % 512, Nat.mod_lt _ (by decide)⟩).trans ?_
  have hp : (pt (5 * b.val + col.val / 512)).val = 5 * b.val + col.val / 512 := by show (5 * b.val + col.val / 512) % 25 = _; omega
  have e1 : (⟨(pt (5 * b.val + col.val / 512)).val / 5, by have := N25 (pt (5 * b.val + col.val / 512)); omega⟩ : Fin 5) = b := Fin.ext (by show _ / 5 = b.val; rw [hp]; omega)
  have e2 : at5 ⟨(pt (5 * b.val + col.val / 512)).val % 5, by omega⟩ ⟨col.val % 512, Nat.mod_lt _ (by decide)⟩ = col :=
    Fin.ext (by show 512 * ((pt (5 * b.val + col.val / 512)).val % 5) + col.val % 512 = col.val; rw [hp]; omega)
  rw [e1, e2]

/-- The gain's block is the gain. -/
theorem lane_7 (c : Dev nD) (t : Fin cfg0.N) : lane (iblk m c 7 t) = vec (a6 m c) := by
  funext j; exact (blk_7 m c t 0 j).trans (V_v3 m c j)

/-- The offset's block is the offset. -/
theorem lane_8 (c : Dev nD) (t : Fin cfg0.N) : lane (iblk m c 8 t) = vec (a7 m c) := by
  funext j; exact (blk_8 m c t 0 j).trans (V_v4 m c j)

/-- The length read at a grid point is its batch row's. -/
theorem LN_entry (c : Dev nD) (t : Fin cfg0.N) (b : Fin 5) (hb : t.val / 5 = b.val) : LN m c t = a8 m c (ix1 (n0 := 5) b) := by
  have e : bOf (grid0.coords t) = b := Fin.ext ((bOf_coords t).trans hb)
  unfold LN lenOf
  rw [e]
  exact (blk_0 m c t b).trans (congrFun (V_main_arg8 m c) _)

end Cert.KernelIdeal.Hand

end
-- ==== Proof.OutI.lean ====
module

public import proofs.«01_k».proof.Proof.ArrI

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI Idealize.SL.Sem
open Idealize.ShloMosaic.Pipeline (Dat Cfg Window)
open Cert.KernelIdeal Cert.KernelIdeal.Gen

variable (m : (ℓ : Loc nD τ sig) → Buf (Elt Ideal) ℓ)

/-- One batch row's pooled mean, of the launch's arguments. -/
def MA (c : Dev nD) (b : Fin 5) : Fin 2560 → EReal := MS (a0 m c) (a1 m c) (a2 m c) (a3 m c) (a4 m c) (a5 m c) (a6 m c) (a7 m c) (a8 m c) b

/-- The kernel's pooled mean of a batch row, of the launch's arguments. -/
theorem MA_eq (c : Dev nD) (t : Fin cfg0.N) (b : Fin 5) (hb : t.val / 5 = b.val) :
    mm (LN m c t) (rowsOf (Y5 m c (t.val / 5))) (lane (iblk m c 7 t)) (lane (iblk m c 8 t)) = MA m c b := by
  rw [hb, rowsOf_Y5, lane_7, lane_8, LN_entry m c t b hb]; rfl

/-! ## The four output arrays after the grid -/

/-- The masked rows, as the grid leaves them. -/
def O9 (c : Dev nD) : Vec Ideal S5x384x2560 .f32 := RZ (a0 m c) (a1 m c) (a2 m c) (a3 m c) (a4 m c) (a5 m c) (a6 m c) (a7 m c) (a8 m c)
/-- The pooled mean, as the grid leaves them. -/
def O10 (c : Dev nD) : Vec Ideal S5x1x2560 .f32 := fun i => MA m c (i 0) (i 2)
/-- The codes, as the grid leaves them. -/
def O11 (c : Dev nD) : Vec Ideal S5x1x2560 .i8 := fun i => co (ee (MA m c (i 0))) (i 2)
/-- The scales, as the grid leaves them. -/
def O12 (c : Dev nD) : Vec Ideal S5x1x128 .f32 := fun i => sc (ee (MA m c (i 0)))

/-- A grid point's batch row. -/
def row (t : Fin cfg0.N) : Fin 5 := ⟨t.val / 5, by have := N25 t; omega⟩

/-- Result 1's array after the grid: each row's last panel stores that row. -/
theorem final_9 (c : Dev nD) : (vdats m 0 c).arrAt 9 cfg0.N = O9 m c := by
  refine (vdats m 0 c).arrAt_eq_of_covers 9 (O9 m c) (by decide +kernel) fun t hf y => ?_
  have hb : t.val / 5 = (row t).val := rfl
  have he : ((cfg0.win 9).blk t).view.emb y = ix3 (n0 := 5) (n1 := 384) (n2 := 2560) (row t) (y 1) (y 2) := by blk_ext [index_9 t, hb]
  refine (cast_eq _ _).trans ?_
  rw [he, vafter0_9]
  refine (ZM_apply _ _ _ _ (y 0) (y 1) (y 2)).trans ?_
  rw [hb, rowsOf_Y5, lane_7, lane_8, LN_entry m c t _ hb]; rfl

/-- Result 2's array after the grid: each row's last panel stores that row. -/
theorem final_10 (c : Dev nD) : (vdats m 0 c).arrAt 10 cfg0.N = O10 m c := by
  refine (vdats m 0 c).arrAt_eq_of_covers 10 (O10 m c) (by decide +kernel) fun t hf y => ?_
  have hb : t.val / 5 = (row t).val := rfl
  have he : ((cfg0.win 10).blk t).view.emb y = ix3 (n0 := 5) (n1 := 1) (n2 := 2560) (row t) (y 1) (y 2) := by blk_ext [index_10 t, hb]
  refine (cast_eq _ _).trans ?_
  rw [he, vafter0_10]
  refine (PM_apply _ _ _ _ (y 0) (y 1) (y 2)).trans ?_
  rw [MA_eq m c t _ hb]; rfl

/-- Result 3's array after the grid: each row's last panel stores that row. -/
theorem final_11 (c : Dev nD) : (vdats m 0 c).arrAt 11 cfg0.N = O11 m c := by
  refine (vdats m 0 c).arrAt_eq_of_covers 11 (O11 m c) (by decide +kernel) fun t hf y => ?_
  have hb : t.val / 5 = (row t).val := rfl
  have he : ((cfg0.win 11).blk t).view.emb y = ix3 (n0 := 5) (n1 := 1) (n2 := 2560) (row t) (y 1) (y 2) := by blk_ext [index_11 t, hb]
  refine (cast_eq _ _).trans ?_
  rw [he, vafter0_11]
  refine (CO_apply _ _ _ _ (y 0) (y 1) (y 2)).trans ?_
  rw [MA_eq m c t _ hb]; rfl

/-- Result 4's array after the grid: each row's last panel stores that row. -/
theorem final_12 (c : Dev nD) : (vdats m 0 c).arrAt 12 cfg0.N = O12 m c := by
  refine (vdats m 0 c).arrAt_eq_of_covers 12 (O12 m c) (by decide +kernel) fun t hf y => ?_
  have hb : t.val / 5 = (row t).val := rfl
  have he : ((cfg0.win 12).blk t).view.emb y = ix3 (n0 := 5) (n1 := 1) (n2 := 128) (row t) (y 1) (y 2) := by blk_ext [index_12 t, hb]
  refine (cast_eq _ _).trans ?_
  rw [he, vafter0_12]
  refine (SC_apply _ _ _ _ (y 0) (y 1) (y 2)).trans ?_
  rw [MA_eq m c t _ hb]; rfl

end Cert.KernelIdeal.Hand

end
-- ==== Proof.RunI.lean ====
module

public import proofs.«01_k».proof.Proof.OutI

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The host line after the grid -/

/-- The buffers when the grid is done. -/
def σ1 (c : Dev nD) : Valuation τ sig (Elt Ideal) := Pipeline.withArrays (cfgs 0).spec c (V0 m c) fun w => (vdats m 0 c).arrAt w (cfgs 0).N

/-- A buffer after the host lines, from the buffers after the grid. -/
theorem tail_eq (c : Dev nD) (b : Ref sig .tc) : Pipeline.afterTail₀ cfgs (vdats m) 0 (V0 m) [hostOps1] c b = StableHlo.after hostOps1 (σ1 m c) (Proc.devRef .tc b) := by
  unfold Pipeline.afterTail₀ σ1
  simp only [List.flatten_cons, List.flatten_nil, List.append_nil]

/-- The windows' arrays differ. -/
theorem arr_inj : Function.Injective (Pipeline.arrRef spec0) := by decide

/-- The buffer of the pooled mean after the grid. -/
theorem σ1_10 (c : Dev nD) : σ1 m c (Proc.devRef .tc main_v5_1) = O10 m c := (Pipeline.withArrays_arr spec0 arr_inj c _ _ 10).trans (final_10 m c)
/-- The buffer of the codes after the grid. -/
theorem σ1_11 (c : Dev nD) : σ1 m c (Proc.devRef .tc main_v5_2) = O11 m c := (Pipeline.withArrays_arr spec0 arr_inj c _ _ 11).trans (final_11 m c)
/-- The buffer of the scales after the grid. -/
theorem σ1_12 (c : Dev nD) : σ1 m c (Proc.devRef .tc main_v5_3) = O12 m c := (Pipeline.withArrays_arr spec0 arr_inj c _ _ 12).trans (final_12 m c)

/-- Dropping the unit axis of a pooled row. -/
theorem squeeze_apply {α : Type} (x : S5x1x2560.Idx → α) (h) (i : S5x2560.Idx) : shapeCast S5x2560 x h i = x (ix3 (n0 := 5) (n1 := 1) (n2 := 2560) (i 0) 0 (i 1)) := by
  refine shapeCast_apply _ _ _ _ ?_
  rw [Shape.rowMajor_val_three, Shape.rowMajor_val_two]
  show ((i 0).val * 1 + 0) * 2560 + (i 1).val = (i 0).val * 2560 + (i 1).val; omega

/-- The kernel's second result. -/
theorem tail_v6 (c : Dev nD) : Pipeline.afterTail₀ cfgs (vdats m) 0 (V0 m) [hostOps1] c main_v6
    = RM (a0 m c) (a1 m c) (a2 m c) (a3 m c) (a4 m c) (a5 m c) (a6 m c) (a7 m c) (a8 m c) := by
  rw [tail_eq]
  have h := σ1_10 m c
  generalize σ1 m c = σ at h
  unfold hostOps1
  after_results
  rw [h]
  funext i
  exact (squeeze_apply (O10 m c) _ i).trans rfl

/-- The kernel's third result. -/
theorem tail_v7 (c : Dev nD) : Pipeline.afterTail₀ cfgs (vdats m) 0 (V0 m) [hostOps1] c main_v7
    = RC (a0 m c) (a1 m c) (a2 m c) (a3 m c) (a4 m c) (a5 m c) (a6 m c) (a7 m c) (a8 m c) := by
  rw [tail_eq]
  have h := σ1_11 m c
  generalize σ1 m c = σ at h
  unfold hostOps1
  after_results
  rw [h]
  funext i
  exact (squeeze_apply (O11 m c) _ i).trans rfl

/-- The scales are the first of the repeated lanes. -/
theorem scale_apply {α : Type} (x : S5x1x128.Idx → α) (h h2) (i : S5.Idx) :
    shapeCast S5 (extractStridedSlice S5x1x1 ![0, 0, 0] x h) h2 i = x (ix3 (n0 := 5) (n1 := 1) (n2 := 128) (i 0) 0 0) := by
  refine (shapeCast_apply (s := S5x1x1) (t := S5) _ _ i (ix3 (n0 := 5) (n1 := 1) (n2 := 1) (i 0) 0 0) ?_).trans (extractStridedSlice_apply _ _ _ _ _ ?_)
  · rw [Shape.rowMajor_val_three, Shape.rowMajor_val_one]
    show ((i 0).val * 1 + 0) * 1 + 0 = (i 0).val; omega
  · intro a; match a with
    | ⟨0, _⟩ => show (i 0).val = 0 + (i 0).val; omega
    | ⟨1, _⟩ => rfl
    | ⟨2, _⟩ => rfl

/-- The kernel's fourth result. -/
theorem tail_v9 (c : Dev nD) : Pipeline.afterTail₀ cfgs (vdats m) 0 (V0 m) [hostOps1] c main_v9
    = RS (a0 m c) (a1 m c) (a2 m c) (a3 m c) (a4 m c) (a5 m c) (a6 m c) (a7 m c) (a8 m c) := by
  rw [tail_eq]
  have h := σ1_12 m c
  generalize σ1 m c = σ at h
  unfold hostOps1
  after_results
  rw [h]
  funext i
  exact (scale_apply (O12 m c) _ _ i).trans rfl

/-- The kernel's run: the four results at their values of the arguments, the arguments unchanged. -/
theorem value_run : θ_run defs (onTc (τ := τ) (main (F := Ideal))) ⟨m, fun _ => 0, ρ⟩ fun r => ∀ c : Dev nD,
      r.2.mem ((c : Thread nD τ).loc main_v5_0) = RZ (a0 m c) (a1 m c) (a2 m c) (a3 m c) (a4 m c) (a5 m c) (a6 m c) (a7 m c) (a8 m c)
      ∧ r.2.mem ((c : Thread nD τ).loc main_v6) = RM (a0 m c) (a1 m c) (a2 m c) (a3 m c) (a4 m c) (a5 m c) (a6 m c) (a7 m c) (a8 m c)
      ∧ r.2.mem ((c : Thread nD τ).loc main_v7) = RC (a0 m c) (a1 m c) (a2 m c) (a3 m c) (a4 m c) (a5 m c) (a6 m c) (a7 m c) (a8 m c)
      ∧ r.2.mem ((c : Thread nD τ).loc main_v9) = RS (a0 m c) (a1 m c) (a2 m c) (a3 m c) (a4 m c) (a5 m c) (a6 m c) (a7 m c) (a8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h c).1 9).trans (final_9 m c),
      ((h c).2 main_v6 (Pipeline.mem_restRefs_of main_v6 (by decide) (by decide))).trans (tail_v6 m c),
      ((h c).2 main_v7 (Pipeline.mem_restRefs_of main_v7 (by decide) (by decide))).trans (tail_v7 m c),
      ((h c).2 main_v9 (Pipeline.mem_restRefs_of main_v9 (by decide) (by decide))).trans (tail_v9 m c),
      ((h c).1 5).trans (((vdats m 0 c).arrAt_in 5 rfl _).trans ((vA_eq m c 5).trans (V_main_arg0 m c))),
      ((h c).1 2).trans (((vdats m 0 c).arrAt_in 2 rfl _).trans ((vA_eq m c 2).trans (V_main_arg1 m c))),
      ((h c).2 main_arg2 (Pipeline.mem_restRefs_of main_arg2 (by decide) (by decide))).trans (W_main_arg2 m (vdats m) c),
      ((h c).1 4).trans (((vdats m 0 c).arrAt_in 4 rfl _).trans ((vA_eq m c 4).trans (V_main_arg3 m c))),
      ((h c).2 main_arg4 (Pipeline.mem_restRefs_of main_arg4 (by decide) (by decide))).trans (W_main_arg4 m (vdats m) c),
      ((h c).2 main_arg5 (Pipeline.mem_restRefs_of main_arg5 (by decide) (by decide))).trans (W_main_arg5 m (vdats m) c),
      ((h c).2 main_arg6 (Pipeline.mem_restRefs_of main_arg6 (by decide) (by decide))).trans (W_main_arg6 m (vdats m) c),
      ((h c).2 main_arg7 (Pipeline.mem_restRefs_of main_arg7 (by decide) (by decide))).trans (W_main_arg7 m (vdats m) c),
      ((h c).1 0).trans (((vdats m 0 c).arrAt_in 0 rfl _).trans ((vA_eq m c 0).trans (V_main_arg8 m c)))⟩) (vrun m ρ)

end Cert.KernelIdeal.Hand

end
-- ==== Proof.RefI.lean ====
module

public import proofs.«01_k».proof.Proof.PanI
public import proofs.«01_k».proof.Proof.Gen.ReferenceIdeal.Frame

@[expose] public section

set_option maxRecDepth 16384

noncomputable section

namespace Cert.ReferenceIdeal.Hand

open Idealize.ShloMosaic
open Cert.ReferenceIdeal Cert.ReferenceIdeal.Gen
open Cert.KernelIdeal.Hand (mu va zz mm ee am sc co prod YS vec RZ MS RM RC RS sc_of code_of)

/-! ## The reference's layout operations at an index -/

section Layout
variable {α : Type}

/-- A trailing unit axis added to rows. -/
theorem col3 (v : S5x384.Idx → α) (h) (b : Fin 5) (r : Fin 384) (z : Fin 1) :
    shapeCast S5x384x1 v h (ix3 (n0 := 5) (n1 := 384) (n2 := 1) b r z) = v (ix2 (n0 := 5) (n1 := 384) b r) := by
  refine shapeCast_apply _ _ _ _ ?_
  rw [Shape.rowMajor_val_two, Shape.rowMajor_val_three]
  show b.val * 384 + r.val = (b.val * 384 + r.val) * 1 + z.val; omega

/-- A column spread over the channels. -/
theorem bcol3 (x : S5x384x1.Idx → α) (h) (b : Fin 5) (r : Fin 384) (c : Fin 2560) :
    broadcastTo S5x384x2560 x h (ix3 (n0 := 5) (n1 := 384) (n2 := 2560) b r c) = x (ix3 (n0 := 5) (n1 := 384) (n2 := 1) b r 0) := by
  refine broadcastTo_apply _ _ _ _ ?_
  intro d; match d with
  | ⟨0, _⟩ => rfl
  | ⟨1, _⟩ => rfl
  | ⟨2, _⟩ => rfl

/-- A vector of 2560 spread over the whole batch. -/
theorem brow3 (v : S2560.Idx → α) (h h2) (b : Fin 5) (r : Fin 384) (c : Fin 2560) :
    broadcastTo S5x384x2560 (shapeCast S1x1x2560 v h) h2 (ix3 (n0 := 5) (n1 := 384) (n2 := 2560) b r c) = v (ix1 (n0 := 2560) c) := by
  refine (broadcastTo_apply _ _ _ (ix3 (n0 := 1) (n1 := 1) (n2 := 2560) 0 0 c) ?_).trans (shapeCast_apply _ _ _ _ ?_)
  · intro d; match d with
    | ⟨0, _⟩ => rfl
    | ⟨1, _⟩ => rfl
    | ⟨2, _⟩ => rfl
  · rw [Shape.rowMajor_val_one, Shape.rowMajor_val_three]
    show c.val = (0 * 1 + 0) * 2560 + c.val; omega

/-- A trailing unit axis added to a vector. -/
theorem col2 (v : S5.Idx → α) (h) (b : Fin 5) (z : Fin 1) : shapeCast S5x1 v h (ix2 (n0 := 5) (n1 := 1) b z) = v (ix1 (n0 := 5) b) := by
  refine shapeCast_apply _ _ _ _ ?_
  rw [Shape.rowMajor_val_one, Shape.rowMajor_val_two]
  show b.val = b.val * 1 + z.val; omega

/-- A column spread over the channels of a vector. -/
theorem bcol2 (x : S5x1.Idx → α) (h) (b : Fin 5) (c : Fin 2560) : broadcastTo S5x2560 x h (ix2 (n0 := 5) (n1 := 2560) b c) = x (ix2 (n0 := 5) (n1 := 1) b 0) := by
  refine broadcastTo_apply _ _ _ _ ?_
  intro d; match d with
  | ⟨0, _⟩ => rfl
  | ⟨1, _⟩ => rfl

/-- A column spread over the rows. -/
theorem bcol384 (x : S5x1.Idx → α) (h) (b : Fin 5) (r : Fin 384) : broadcastTo S5x384 x h (ix2 (n0 := 5) (n1 := 384) b r) = x (ix2 (n0 := 5) (n1 := 1) b 0) := by
  refine broadcastTo_apply _ _ _ _ ?_
  intro d; match d with
  | ⟨0, _⟩ => rfl
  | ⟨1, _⟩ => rfl

/-- A row of 384 flattened, lifted back and spread over the batch. -/
theorem brow384 (v : S1x384.Idx → α) (h h2 h3) (b : Fin 5) (r : Fin 384) :
    broadcastTo S5x384 (shapeCast S1x384 (shapeCast S384 v h) h2) h3 (ix2 (n0 := 5) (n1 := 384) b r) = v (ix2 (n0 := 1) (n1 := 384) 0 r) := by
  refine (broadcastTo_apply _ _ _ (ix2 (n0 := 1) (n1 := 384) 0 r) ?_).trans
    ((shapeCast_apply _ _ _ (ix1 (n0 := 384) r) ?_).trans (shapeCast_apply _ _ _ _ ?_))
  · intro d; match d with
    | ⟨0, _⟩ => rfl
    | ⟨1, _⟩ => rfl
  · rw [Shape.rowMajor_val_one, Shape.rowMajor_val_two]
    show r.val = 0 * 384 + r.val; omega
  · rw [Shape.rowMajor_val_one, Shape.rowMajor_val_two]
    show 0 * 384 + r.val = r.val; omega

/-- The 128-wide block of an inner column, and the place in it. -/
def hi (k : Fin 9728) : Fin 76 := ⟨k.val / 128, by have := k.isLt; omega⟩
/-- The place of a channel in its block. -/
def lo {n : ℕ} (k : Fin n) : Fin 128 := ⟨k.val % 128, Nat.mod_lt _ (by decide)⟩
/-- The block of an output channel. -/
def hc (c : Fin 2560) : Fin 20 := ⟨c.val / 128, by have := c.isLt; omega⟩

/-- Activations cut into blocks of 128. -/
theorem cutH (v : S5x384x9728.Idx → α) (h) (b : Fin 5) (r : Fin 384) (k : Fin 9728) :
    shapeCast S5x384x76x128 v h (ix4 (n0 := 5) (n1 := 384) (n2 := 76) (n3 := 128) b r (hi k) (lo k)) = v (ix3 (n0 := 5) (n1 := 384) (n2 := 9728) b r k) := by
  refine shapeCast_apply _ _ _ _ ?_
  rw [Shape.rowMajor_val_three, Shape.rowMajor_val_four]
  show (b.val * 384 + r.val) * 9728 + k.val = ((b.val * 384 + r.val) * 76 + k.val / 128) * 128 + k.val % 128; omega

/-- The blocks of activations put back together. -/
theorem joinH (v : S5x384x76x128.Idx → α) (h) (b : Fin 5) (r : Fin 384) (k : Fin 9728) :
    shapeCast S5x384x9728 v h (ix3 (n0 := 5) (n1 := 384) (n2 := 9728) b r k) = v (ix4 (n0 := 5) (n1 := 384) (n2 := 76) (n3 := 128) b r (hi k) (lo k)) := by
  refine shapeCast_apply _ _ _ _ ?_
  rw [Shape.rowMajor_val_three, Shape.rowMajor_val_four]
  show ((b.val * 384 + r.val) * 76 + k.val / 128) * 128 + k.val % 128 = (b.val * 384 + r.val) * 9728 + k.val; omega

/-- A scale per block, spread over the block. -/
theorem spreadH (v : S5x384x76.Idx → α) (h h2) (b : Fin 5) (r : Fin 384) (p : Fin 76) (q : Fin 128) :
    broadcastTo S5x384x76x128 (shapeCast S5x384x76x1 v h) h2 (ix4 (n0 := 5) (n1 := 384) (n2 := 76) (n3 := 128) b r p q) = v (ix3 (n0 := 5) (n1 := 384) (n2 := 76) b r p) := by
  refine (broadcastTo_apply _ _ _ (ix4 (n0 := 5) (n1 := 384) (n2 := 76) (n3 := 1) b r p 0) ?_).trans (shapeCast_apply _ _ _ _ ?_)
  · intro d; match d with
    | ⟨0, _⟩ => rfl
    | ⟨1, _⟩ => rfl
    | ⟨2, _⟩ => rfl
    | ⟨3, _⟩ => rfl
  · rw [Shape.rowMajor_val_three, Shape.rowMajor_val_four]
    show (b.val * 384 + r.val) * 76 + p.val = ((b.val * 384 + r.val) * 76 + p.val) * 1 + 0; omega

/-- Weights cut into blocks of 128 by 128. -/
theorem cutW (v : S9728x2560.Idx → α) (h) (k : Fin 9728) (c : Fin 2560) :
    shapeCast S76x128x20x128 v h (ix4 (n0 := 76) (n1 := 128) (n2 := 20) (n3 := 128) (hi k) (lo k) (hc c) (lo c)) = v (ix2 (n0 := 9728) (n1 := 2560) k c) := by
  refine shapeCast_apply _ _ _ _ ?_
  rw [Shape.rowMajor_val_two, Shape.rowMajor_val_four]
  show k.val * 2560 + c.val = ((k.val / 128 * 128 + k.val % 128) * 20 + c.val / 128) * 128 + c.val % 128; omega

/-- The blocks of weights put back together. -/
theorem joinW (v : S76x128x20x128.Idx → α) (h) (k : Fin 9728) (c : Fin 2560) :
    shapeCast S9728x2560 v h (ix2 (n0 := 9728) (n1 := 2560) k c) = v (ix4 (n0 := 76) (n1 := 128) (n2 := 20) (n3 := 128) (hi k) (lo k) (hc c) (lo c)) := by
  refine shapeCast_apply _ _ _ _ ?_
  rw [Shape.rowMajor_val_two, Shape.rowMajor_val_four]
  show ((k.val / 128 * 128 + k.val % 128) * 20 + c.val / 128) * 128 + c.val % 128 = k.val * 2560 + c.val; omega

/-- The weight scales spread over their blocks. -/
theorem spreadW (v : S76x20.Idx → α) (h h2) (p : Fin 76) (q : Fin 128) (s : Fin 20) (t : Fin 128) :
    broadcastTo S76x128x20x128 (shapeCast S76x1x20x1 v h) h2 (ix4 (n0 := 76) (n1 := 128) (n2 := 20) (n3 := 128) p q s t) = v (ix2 (n0 := 76) (n1 := 20) p s) := by
  refine (broadcastTo_apply _ _ _ (ix4 (n0 := 76) (n1 := 1) (n2 := 20) (n3 := 1) p 0 s 0) ?_).trans (shapeCast_apply _ _ _ _ ?_)
  · intro d; match d with
    | ⟨0, _⟩ => rfl
    | ⟨1, _⟩ => rfl
    | ⟨2, _⟩ => rfl
    | ⟨3, _⟩ => rfl
  · rw [Shape.rowMajor_val_two, Shape.rowMajor_val_four]
    show p.val * 20 + s.val = ((p.val * 1 + 0) * 20 + s.val) * 1 + 0; omega

end Layout

/-! ## The reference's reductions and contraction at an index -/

/-- The sum over the channels. -/
theorem sumCols (v : FVec Ideal S5x384x2560 .f32) (acc h hf hacc) (b : Fin 5) (r : Fin 384) :
    multiReduction .add [2] S5x384 v acc h hf hacc (ix2 (n0 := 5) (n1 := 384) b r) = ∑ c : Fin 2560, v (ix3 (n0 := 5) (n1 := 384) (n2 := 2560) b r c) := by
  refine (Ideal.multiReduction_add_single _ _ _ _ _ _).trans ?_
  refine Finset.sum_congr rfl fun k _ => congrArg v ?_
  funext d; match d with
  | ⟨0, _⟩ => rfl
  | ⟨1, _⟩ => rfl
  | ⟨2, _⟩ => rfl

/-- The sum over the rows. -/
theorem sumRows (v : FVec Ideal S5x384x2560 .f32) (acc h hf hacc) (b : Fin 5) (c : Fin 2560) :
    multiReduction .add [1] S5x2560 v acc h hf hacc (ix2 (n0 := 5) (n1 := 2560) b c) = ∑ r : Fin 384, v (ix3 (n0 := 5) (n1 := 384) (n2 := 2560) b r c) := by
  refine (Ideal.multiReduction_add_single _ _ _ _ _ _).trans ?_
  refine Finset.sum_congr rfl fun k _ => congrArg v ?_
  funext d; match d with
  | ⟨0, _⟩ => rfl
  | ⟨1, _⟩ => rfl
  | ⟨2, _⟩ => rfl

/-- The sum over a vector's channels. -/
theorem sumVec (v : FVec Ideal S5x2560 .f32) (acc h hf hacc) (b : Fin 5) :
    multiReduction .add [1] S5 v acc h hf hacc (ix1 (n0 := 5) b) = ∑ c : Fin 2560, v (ix2 (n0 := 5) (n1 := 2560) b c) := by
  refine (Ideal.multiReduction_add_single _ _ _ _ _ _).trans ?_
  refine Finset.sum_congr rfl fun k _ => congrArg v ?_
  funext d; match d with
  | ⟨0, _⟩ => rfl
  | ⟨1, _⟩ => rfl

/-- The maximum over a vector's channels. -/
theorem maxVec (v : FVec Ideal S5x2560 .f32) (acc h hf hacc) (b : Fin 5) :
    multiReduction .maximumf [1] S5 v acc h hf hacc (ix1 (n0 := 5) b) = Finset.univ.fold max (Ideal.ofBits .f32 acc) fun c : Fin 2560 => v (ix2 (n0 := 5) (n1 := 2560) b c) := by
  refine (Ideal.multiReduction_maximumf_single _ _ _ _ _ _).trans ?_
  refine congrArg (Finset.fold max _ · _) ?_
  funext k; refine congrArg v ?_
  funext d; match d with
  | ⟨0, _⟩ => rfl
  | ⟨1, _⟩ => rfl

/-- The product of activations and weights is the sum over the inner channels. -/
theorem dotAll (lhs : FVec Ideal S5x384x9728 .bf16) (rhs : FVec Ideal S9728x2560 .bf16) (b : Fin 5) (r : Fin 384) (c : Fin 2560) :
    matmul dot_S5x384x9728_S9728x2560_S5x384x2560_2_0_01_1_n_n none lhs rhs (constant S5x384x2560 .f32 0x00000000#32) (ix3 (n0 := 5) (n1 := 384) (n2 := 2560) b r c)
      = ∑ k : Fin 9728, lhs (ix3 (n0 := 5) (n1 := 384) (n2 := 9728) b r k) * rhs (ix2 (n0 := 9728) (n1 := 2560) k c) := by
  refine (Ideal.matmul_constant_zero_apply dot_S5x384x9728_S9728x2560_S5x384x2560_2_0_01_1_n_n none lhs rhs (ix3 (n0 := 5) (n1 := 384) (n2 := 2560) b r c)).trans ?_
  rw [← Equiv.sum_comp (ValueIdx.contrEquiv1 dot_S5x384x9728_S9728x2560_S5x384x2560_2_0_01_1_n_n 9728 rfl rfl).symm]
  refine Finset.sum_congr rfl fun q _ => congrArg₂ (· * ·) (congrArg lhs ?_) (congrArg rhs ?_)
  · funext d; match d with
    | ⟨0, _⟩ => rfl
    | ⟨1, _⟩ => rfl
    | ⟨2, _⟩ => rfl
  · funext d; match d with
    | ⟨0, _⟩ => rfl
    | ⟨1, _⟩ => rfl

end Cert.ReferenceIdeal.Hand

end
-- ==== Proof.RefPay.lean ====
module

public import proofs.«01_k».proof.Proof.RefI

@[expose] public section

set_option maxRecDepth 16384

noncomputable section

namespace Cert.ReferenceIdeal.Hand

open Idealize.ShloMosaic
open Cert.ReferenceIdeal Cert.ReferenceIdeal.Gen
open Cert.KernelIdeal.Hand (mu va zz mm ee am sc co prod YS vec RZ MS RM RC RS sc_of code_of)

/-! ## The stream before the normalisation -/

section Stream
variable (X : Vec Ideal S5x384x2560 .bf16) (HC : Vec Ideal S5x384x9728 .fp8e4m3) (HS : Vec Ideal S5x384x76 .f32) (W : Vec Ideal S9728x2560 .fp8e4m3)
  (WS : Vec Ideal S76x20 .f32) (B : Vec Ideal S2560 .f32)

/-- The dequantised activations. -/
def HD : FVec Ideal S5x384x9728 .bf16 :=
  shapeCast S5x384x9728 (mulf (shapeCast S5x384x76x128 (extf .bf16 HC bitsLt_fp8e4m3_bf16 : FVec Ideal S5x384x9728 .bf16) shapeCasts_S5x384x9728_S5x384x76x128)
    (broadcastTo S5x384x76x128 (shapeCast S5x384x76x1 (truncf .bf16 HS bitsLt_bf16_f32 : FVec Ideal S5x384x76 .bf16) shapeCasts_S5x384x76_S5x384x76x1) broadcasts_S5x384x76x1_S5x384x76x128))
    shapeCasts_S5x384x76x128_S5x384x9728

/-- The dequantised weights. -/
def WDQ : FVec Ideal S9728x2560 .bf16 :=
  shapeCast S9728x2560 (mulf (shapeCast S76x128x20x128 (extf .bf16 W bitsLt_fp8e4m3_bf16 : FVec Ideal S9728x2560 .bf16) shapeCasts_S9728x2560_S76x128x20x128)
    (broadcastTo S76x128x20x128 (shapeCast S76x1x20x1 (truncf .bf16 WS bitsLt_bf16_f32 : FVec Ideal S76x20 .bf16) shapeCasts_S76x20_S76x1x20x1) broadcasts_S76x1x20x1_S76x128x20x128))
    shapeCasts_S76x128x20x128_S9728x2560

/-- The residual stream. -/
def ST : FVec Ideal S5x384x2560 .f32 :=
  addf (addf (extf .f32 X bitsLt_bf16_f32) (matmul dot_S5x384x9728_S9728x2560_S5x384x2560_2_0_01_1_n_n none (HD HC HS) (WDQ W WS) (constant S5x384x2560 .f32 0x00000000#32)))
    (broadcastTo S5x384x2560 (shapeCast S1x1x2560 B shapeCasts_S2560_S1x1x2560) broadcasts_S1x1x2560_S5x384x2560)

/-- The stream less its row mean, over any stream. -/
def CT (y : FVec Ideal S5x384x2560 .f32) : FVec Ideal S5x384x2560 .f32 :=
  subf y (broadcastTo S5x384x2560 (divf (shapeCast S5x384x1 (multiReduction .add [2] S5x384 y 0x00000000#32 reduces_S5x384x2560_S5x384 (.inl rfl) rfl) shapeCasts_S5x384_S5x384x1)
    (broadcast S5x384x1 (Scalar.ofBits (F := Ideal) .f32 0x45200000#32))) broadcasts_S5x384x1_S5x384x2560)

/-- The centred rows, by name. -/
theorem pay2_eq : k0_pay2 X HC HS W WS B = CT (ST X HC HS W WS B) := rfl

/-- The dequantised activations at an index. -/
theorem HD_apply (b : Fin 5) (r : Fin 384) (k : Fin 9728) :
    HD HC HS (ix3 (n0 := 5) (n1 := 384) (n2 := 9728) b r k) = HC (ix3 (n0 := 5) (n1 := 384) (n2 := 9728) b r k) * HS (ix3 (n0 := 5) (n1 := 384) (n2 := 76) b r (hi k)) := by
  unfold HD
  rw [joinH, ValueIdx.mulf_apply, cutH, spreadH]; rfl

/-- The dequantised weights at an index. -/
theorem WDQ_apply (k : Fin 9728) (c : Fin 2560) :
    WDQ W WS (ix2 (n0 := 9728) (n1 := 2560) k c) = W (ix2 (n0 := 9728) (n1 := 2560) k c) * WS (ix2 (n0 := 76) (n1 := 20) (hi k) (hc c)) := by
  unfold WDQ
  rw [joinW, ValueIdx.mulf_apply, cutW, spreadW]; rfl

/-- The stream's entry is the specification's. -/
theorem ST_apply (b : Fin 5) (r : Fin 384) (c : Fin 2560) : ST X HC HS W WS B (ix3 (n0 := 5) (n1 := 384) (n2 := 2560) b r c) = YS X HC HS W WS B b r c := by
  unfold ST YS
  rw [ValueIdx.addf_apply, ValueIdx.addf_apply, brow3]
  refine congrArg (· + _) (congrArg (_ + ·) ((dotAll _ _ b r c).trans (Finset.sum_congr rfl fun k _ => ?_)))
  rw [HD_apply, WDQ_apply]; rfl

/-- The centred rows at an index. -/
theorem CT_apply (y : FVec Ideal S5x384x2560 .f32) (Y : Fin 5 → Fin 384 → Fin 2560 → EReal) (hY : ∀ b r c, y (ix3 (n0 := 5) (n1 := 384) (n2 := 2560) b r c) = Y b r c)
    (b : Fin 5) (r : Fin 384) (c : Fin 2560) : CT y (ix3 (n0 := 5) (n1 := 384) (n2 := 2560) b r c) = Y b r c - mu (Y b) r := by
  unfold CT mu
  rw [ValueIdx.subf_apply, bcol3, ValueIdx.divf_apply, col3, hY]
  refine congrArg (fun t => _ - Ideal.div t _) ((sumCols _ _ _ _ _ b r).trans (Finset.sum_congr rfl fun k _ => hY b r k))

/-- The centred stream. -/
theorem pay2_apply (b : Fin 5) (r : Fin 384) (c : Fin 2560) :
    k0_pay2 X HC HS W WS B (ix3 (n0 := 5) (n1 := 384) (n2 := 2560) b r c) = YS X HC HS W WS B b r c - mu (YS X HC HS W WS B b) r := by
  rw [pay2_eq]; exact CT_apply _ _ (ST_apply X HC HS W WS B) b r c

/-- The sum of its squares along a row. -/
theorem pay3_apply (b : Fin 5) (r : Fin 384) :
    k0_pay3 X HC HS W WS B (ix3 (n0 := 5) (n1 := 384) (n2 := 1) b r 0)
      = ∑ c, (YS X HC HS W WS B b r c - mu (YS X HC HS W WS B b) r) * (YS X HC HS W WS B b r c - mu (YS X HC HS W WS B b) r) := by
  unfold k0_pay3
  refine (col3 _ _ b r 0).trans ((sumCols _ _ _ _ _ b r).trans (Finset.sum_congr rfl fun k _ => ?_))
  rw [ValueIdx.mulf_apply, pay2_apply]

end Stream

/-! ## The normalisation, the pooling and the quantisation, over any stream -/

section Norm
variable (G BE : Vec Ideal S2560 .f32) (L : Vec Ideal S5 .i32) (v34 : FVec Ideal S5x384x2560 .f32) (v37 : FVec Ideal S5x384x1 .f32)
  (Y : Fin 5 → Fin 384 → Fin 2560 → EReal) (h34 : ∀ b r c, v34 (ix3 (n0 := 5) (n1 := 384) (n2 := 2560) b r c) = Y b r c - mu (Y b) r)
  (h37 : ∀ b r, v37 (ix3 (n0 := 5) (n1 := 384) (n2 := 1) b r 0) = ∑ c, (Y b r c - mu (Y b) r) * (Y b r c - mu (Y b) r))

/-- The word the mean of squares is divided by. -/
abbrev nw : Ideal .f32 := Scalar.ofBits (F := Ideal) .f32 0x45200000#32

/-- The mask at an entry. -/
theorem mask_apply (h1 h2 h3 h4 h5 h6 h7 h8 h9) (b : Fin 5) (r : Fin 384) (c : Fin 2560) :
    broadcastTo S5x384x2560 (shapeCast S5x384x1 (shapeCast S5x384x1 (cmpi .slt (broadcastTo S5x384 (shapeCast S1x384 (shapeCast S384 (iota .tc S1x384 32 [1] h1) h2) h3) h4)
      (broadcastTo S5x384 (shapeCast S5x1 L h5) h6)) h7) h8) h9 (ix3 (n0 := 5) (n1 := 384) (n2 := 2560) b r c)
      = Scalar.cmpi .slt (BitVec.ofNat 32 r.val) (L (ix1 (n0 := 5) b)) := by
  rw [bcol3, shapeCast_self, col3]
  show Scalar.cmpi .slt (broadcastTo S5x384 _ _ _) (broadcastTo S5x384 _ _ _) = _
  rw [brow384, bcol384, col2]
  refine congrArg (fun t => Scalar.cmpi .slt t _) ?_
  show BitVec.ofNat 32 (0 * 384 + r.val) = _
  rw [Nat.zero_mul, Nat.zero_add]

include h37 in
/-- The variance at a row. -/
theorem var_apply (b : Fin 5) (r : Fin 384) (z : Fin 1) :
    addf (divf v37 (broadcast S5x384x1 nw)) (broadcast S5x384x1 (Scalar.ofBits (F := Ideal) .f32 0x3727C5AC#32)) (ix3 (n0 := 5) (n1 := 384) (n2 := 1) b r z) = va (Y b) r := by
  obtain rfl : z = 0 := Subsingleton.elim _ _
  unfold va
  rw [ValueIdx.addf_apply, ValueIdx.divf_apply, h37]; rfl

include h34 h37

/-- The masked normalised entry. -/
theorem pay4_apply (b : Fin 5) (r : Fin 384) (c : Fin 2560) :
    k0_pay4 G BE L v34 v37 nw (ix3 (n0 := 5) (n1 := 384) (n2 := 2560) b r c) = zz (L (ix1 (n0 := 5) b)) (Y b) (vec G) (vec BE) r c := by
  unfold k0_pay4 zz
  show Scalar.select (broadcastTo S5x384x2560 _ _ _) (addf _ _ _) (Ideal.ofBits .f32 0x00000000#32) = _
  rw [mask_apply, ValueIdx.addf_apply, ValueIdx.mulf_apply, ValueIdx.mulf_apply, brow3, brow3, bcol3, h34]
  refine congrArg (fun t : EReal => Scalar.select _ ((Y b r c - mu (Y b) r) * t * vec G c + vec BE c) _) ?_
  exact congrArg Ideal.rsqrt (var_apply v37 Y h37 b r 0)

/-- The pooled mean. -/
theorem pay5_apply (b : Fin 5) (c : Fin 2560) : k0_pay5 G BE L v34 v37 nw (ix2 (n0 := 5) (n1 := 2560) b c) = mm (L (ix1 (n0 := 5) b)) (Y b) (vec G) (vec BE) c := by
  unfold k0_pay5 mm
  rw [ValueIdx.divf_apply, bcol2, col2]
  exact congrArg (fun t => Ideal.div t _) ((sumRows _ _ _ _ _ b c).trans (Finset.sum_congr rfl fun r _ => pay4_apply G BE L v34 v37 Y h34 h37 b r c))

/-- The unit vector. -/
theorem pay6_apply (b : Fin 5) (c : Fin 2560) : k0_pay6 G BE L v34 v37 nw (ix2 (n0 := 5) (n1 := 2560) b c) = ee (mm (L (ix1 (n0 := 5) b)) (Y b) (vec G) (vec BE)) c := by
  unfold k0_pay6 ee
  rw [ValueIdx.divf_apply, bcol2, pay5_apply G BE L v34 v37 Y h34 h37]
  refine congrArg (Ideal.div _) ?_
  show max (Ideal.sqrt (shapeCast S5x1 _ _ _)) (Ideal.ofBits .f32 0x2B8CBCCC#32) = _
  rw [col2]
  refine congrArg (fun t => max (Ideal.sqrt t) _) ((sumVec _ _ _ _ _ b).trans (Finset.sum_congr rfl fun k _ => ?_))
  rw [ValueIdx.mulf_apply, pay5_apply G BE L v34 v37 Y h34 h37]

/-- The scale. -/
theorem pay7_apply (b : Fin 5) : k0_pay7 G BE L v34 v37 nw (ix1 (n0 := 5) b) = sc (ee (mm (L (ix1 (n0 := 5) b)) (Y b) (vec G) (vec BE))) := by
  unfold k0_pay7
  refine sc_of ((maxVec _ _ _ _ _ b).trans ?_)
  unfold am
  refine congrArg (Finset.fold max _ · _) (funext fun c => ?_)
  show max (k0_pay6 _ _ _ _ _ _ _) (-(k0_pay6 _ _ _ _ _ _ _)) = _
  rw [pay6_apply G BE L v34 v37 Y h34 h37]

/-- The codes. -/
theorem pay8_apply (b : Fin 5) (c : Fin 2560) : k0_pay1 (k0_pay8 G BE L v34 v37 nw) (Scalar.ofBits (F := Ideal) .f32 0xC2FE0000#32) (ix2 (n0 := 5) (n1 := 2560) b c)
    = co (ee (mm (L (ix1 (n0 := 5) b)) (Y b) (vec G) (vec BE))) c := by
  unfold k0_pay1 k0_pay8
  refine (code_of _ _ _).trans ?_
  rw [pay6_apply G BE L v34 v37 Y h34 h37, bcol2, col2, pay7_apply G BE L v34 v37 Y h34 h37]
  rfl

end Norm

/-! ## The reference's four results are the specification's -/

section Results
variable (X : Vec Ideal S5x384x2560 .bf16) (HC : Vec Ideal S5x384x9728 .fp8e4m3) (HS : Vec Ideal S5x384x76 .f32) (W : Vec Ideal S9728x2560 .fp8e4m3)
  (WS : Vec Ideal S76x20 .f32) (B G BE : Vec Ideal S2560 .f32) (L : Vec Ideal S5 .i32)

/-- The reference's masked rows are the specification's. -/
theorem ref_z : k0_pay4 G BE L (k0_pay2 X HC HS W WS B) (k0_pay3 X HC HS W WS B) nw = RZ X HC HS W WS B G BE L := by
  funext i
  have hi : i = ix3 (n0 := 5) (n1 := 384) (n2 := 2560) (i 0) (i 1) (i 2) := by
    funext d; match d with
    | ⟨0, _⟩ => rfl
    | ⟨1, _⟩ => rfl
    | ⟨2, _⟩ => rfl
  exact (congrArg _ hi).trans (pay4_apply G BE L _ _ _ (pay2_apply X HC HS W WS B) (pay3_apply X HC HS W WS B) (i 0) (i 1) (i 2))

/-- An index of a matrix from its two coordinates. -/
theorem two_eta (i : S5x2560.Idx) : i = ix2 (n0 := 5) (n1 := 2560) (i 0) (i 1) := by
  funext d; match d with
  | ⟨0, _⟩ => rfl
  | ⟨1, _⟩ => rfl

/-- The reference's pooled mean is the specification's. -/
theorem ref_m : k0_pay5 G BE L (k0_pay2 X HC HS W WS B) (k0_pay3 X HC HS W WS B) nw = RM X HC HS W WS B G BE L := by
  funext i
  exact (congrArg _ (two_eta i)).trans (pay5_apply G BE L _ _ _ (pay2_apply X HC HS W WS B) (pay3_apply X HC HS W WS B) (i 0) (i 1))

/-- The reference's codes are the specification's. -/
theorem ref_c : k0_pay1 (k0_pay8 G BE L (k0_pay2 X HC HS W WS B) (k0_pay3 X HC HS W WS B) nw) (Scalar.ofBits (F := Ideal) .f32 0xC2FE0000#32) = RC X HC HS W WS B G BE L := by
  funext i
  exact (congrArg _ (two_eta i)).trans (pay8_apply G BE L _ _ _ (pay2_apply X HC HS W WS B) (pay3_apply X HC HS W WS B) (i 0) (i 1))

/-- The reference's scales are the specification's. -/
theorem ref_s : k0_pay7 G BE L (k0_pay2 X HC HS W WS B) (k0_pay3 X HC HS W WS B) nw = RS X HC HS W WS B G BE L := by
  funext i
  have hi : i = ix1 (n0 := 5) (i 0) := by
    funext d; match d with
    | ⟨0, _⟩ => rfl
  exact (congrArg _ hi).trans (pay7_apply G BE L _ _ _ (pay2_apply X HC HS W WS B) (pay3_apply X HC HS W WS B) (i 0))

end Results

end Cert.ReferenceIdeal.Hand

end
-- ==== Proof.RefRun.lean ====
module

public import proofs.«01_k».proof.Proof.RefPay
public import Idealize.ShloMosaic.Lib.Pipeline.ValueKit.Geometry

@[expose] public section

set_option maxRecDepth 16384

noncomputable section

namespace Cert.ReferenceIdeal.Hand

open Idealize.ShloMosaic Idealize.ShloMosaic.TcCoe Idealize.SL.Sem
open Idealize.ShloMosaic.Pipeline (Dat)
open Cert.ReferenceIdeal Cert.ReferenceIdeal.Gen
open Cert.KernelIdeal.Hand (mu va zz mm ee am sc co prod YS vec RZ MS RM RC RS sc_of code_of)

variable (m : (ℓ : Loc nD τ sig) → Buf (Elt Ideal) ℓ) (ρ : Dev nD → PrngReg)

/-! ## The arguments as launched, and the one point's blocks of them -/

/-- The activations x, of the launch. -/
abbrev a0 (c : Dev nD) : Vec Ideal S5x384x2560 .bf16 := m ((c : Thread nD τ).loc main_arg0)
/-- The hidden codes, of the launch. -/
abbrev a1 (c : Dev nD) : Vec Ideal S5x384x9728 .fp8e4m3 := m ((c : Thread nD τ).loc main_arg1)
/-- The hidden scales, of the launch. -/
abbrev a2 (c : Dev nD) : Vec Ideal S5x384x76 .f32 := m ((c : Thread nD τ).loc main_arg2)
/-- The weight codes, of the launch. -/
abbrev a3 (c : Dev nD) : Vec Ideal S9728x2560 .fp8e4m3 := m ((c : Thread nD τ).loc main_arg3)
/-- The weight scales, of the launch. -/
abbrev a4 (c : Dev nD) : Vec Ideal S76x20 .f32 := m ((c : Thread nD τ).loc main_arg4)
/-- The bias, of the launch. -/
abbrev a5 (c : Dev nD) : Vec Ideal S2560 .f32 := m ((c : Thread nD τ).loc main_arg5)
/-- The layer norm gain, of the launch. -/
abbrev a6 (c : Dev nD) : Vec Ideal S2560 .f32 := m ((c : Thread nD τ).loc main_arg6)
/-- The layer norm offset, of the launch. -/
abbrev a7 (c : Dev nD) : Vec Ideal S2560 .f32 := m ((c : Thread nD τ).loc main_arg7)
/-- The lengths, of the launch. -/
abbrev a8 (c : Dev nD) : Vec Ideal S5 .i32 := m ((c : Thread nD τ).loc main_arg8)

/-- The block is the whole argument. -/
theorem blk_0 (c : Dev nD) (t : Fin cfg0.N) : iblk m c 0 t = a0 m c :=
  funext fun y => congrArg (a0 m c) (funext fun a => Fin.ext (Pipeline.Window.rect_emb_val_of_index_zero win0_0 t a rfl y))

/-- The block is the whole argument. -/
theorem blk_1 (c : Dev nD) (t : Fin cfg0.N) : iblk m c 1 t = a1 m c :=
  funext fun y => congrArg (a1 m c) (funext fun a => Fin.ext (Pipeline.Window.rect_emb_val_of_index_zero win0_1 t a rfl y))

/-- The block is the whole argument. -/
theorem blk_2 (c : Dev nD) (t : Fin cfg0.N) : iblk m c 2 t = a2 m c :=
  funext fun y => congrArg (a2 m c) (funext fun a => Fin.ext (Pipeline.Window.rect_emb_val_of_index_zero win0_2 t a rfl y))

/-- The block is the whole argument. -/
theorem blk_3 (c : Dev nD) (t : Fin cfg0.N) : iblk m c 3 t = a3 m c :=
  funext fun y => congrArg (a3 m c) (funext fun a => Fin.ext (Pipeline.Window.rect_emb_val_of_index_zero win0_3 t a rfl y))

/-- The block is the whole argument. -/
theorem blk_4 (c : Dev nD) (t : Fin cfg0.N) : iblk m c 4 t = a4 m c :=
  funext fun y => congrArg (a4 m c) (funext fun a => Fin.ext (Pipeline.Window.rect_emb_val_of_index_zero win0_4 t a rfl y))

/-- The block is the whole argument. -/
theorem blk_5 (c : Dev nD) (t : Fin cfg0.N) : iblk m c 5 t = a5 m c :=
  funext fun y => congrArg (a5 m c) (funext fun a => Fin.ext (Pipeline.Window.rect_emb_val_of_index_zero win0_5 t a rfl y))

/-- The block is the whole argument. -/
theorem blk_6 (c : Dev nD) (t : Fin cfg0.N) : iblk m c 6 t = a6 m c :=
  funext fun y => congrArg (a6 m c) (funext fun a => Fin.ext (Pipeline.Window.rect_emb_val_of_index_zero win0_6 t a rfl y))

/-- The block is the whole argument. -/
theorem blk_7 (c : Dev nD) (t : Fin cfg0.N) : iblk m c 7 t = a7 m c :=
  funext fun y => congrArg (a7 m c) (funext fun a => Fin.ext (Pipeline.Window.rect_emb_val_of_index_zero win0_7 t a rfl y))

/-- The block is the whole argument. -/
theorem blk_8 (c : Dev nD) (t : Fin cfg0.N) : iblk m c 8 t = a8 m c :=
  funext fun y => congrArg (a8 m c) (funext fun a => Fin.ext (Pipeline.Window.rect_emb_val_of_index_zero win0_8 t a rfl y))

/-! ## The body reads and stores whole blocks -/

/-- The load is of the whole block. -/
theorem ld0 (X : Vec Ideal S5x384x2560 .bf16) : View.ld X r0_0 = X := View.ld_unit_lit _ _ (by decide)
/-- The load is of the whole block. -/
theorem ld1 (X : Vec Ideal S5x384x9728 .fp8e4m3) : View.ld X r0_1 = X := View.ld_unit_lit _ _ (by decide)
/-- The load is of the whole block. -/
theorem ld2 (X : Vec Ideal S5x384x76 .f32) : View.ld X r0_2 = X := View.ld_unit_lit _ _ (by decide)
/-- The load is of the whole block. -/
theorem ld3 (X : Vec Ideal S9728x2560 .fp8e4m3) : View.ld X r0_3 = X := View.ld_unit_lit _ _ (by decide)
/-- The load is of the whole block. -/
theorem ld4 (X : Vec Ideal S76x20 .f32) : View.ld X r0_4 = X := View.ld_unit_lit _ _ (by decide)
/-- The load is of the whole block. -/
theorem ld5 (X : Vec Ideal S2560 .f32) : View.ld X r0_5 = X := View.ld_unit_lit _ _ (by decide)
/-- The load is of the whole block. -/
theorem ld6 (X : Vec Ideal S5 .i32) : View.ld X r0_6 = X := View.ld_unit_lit _ _ (by decide)

/-- The masked rows that the body stores. -/
theorem out_9 (X : Vec Ideal S5x384x2560 .bf16) (HC : Vec Ideal S5x384x9728 .fp8e4m3) (HS : Vec Ideal S5x384x76 .f32) (W : Vec Ideal S9728x2560 .fp8e4m3)
    (WS : Vec Ideal S76x20 .f32) (B G BE : Vec Ideal S2560 .f32) (L : Vec Ideal S5 .i32) : out0_9 X HC HS W WS B G BE L = RZ X HC HS W WS B G BE L := by
  unfold out0_9 k0_pay9 k0_pay10
  refine (View.canon_cons_unit_lit _ _ _ (by decide)).trans ?_
  rw [ld0, ld1, ld2, ld3, ld4, ld5, ld5, ld5, ld6]
  exact ref_z X HC HS W WS B G BE L

/-- Result 1 of the reference's run. -/
theorem final_9 (c : Dev nD) : (dats m 0 c).arrAt 9 cfg0.N = RZ (a0 m c) (a1 m c) (a2 m c) (a3 m c) (a4 m c) (a5 m c) (a6 m c) (a7 m c) (a8 m c) := by
  refine (dats m 0 c).arrAt_eq_of_after_last 9 ⟨0, by decide⟩ (by decide +kernel) _ fun y => ?_
  rw [after0_9, blk_0, blk_1, blk_2, blk_3, blk_4, blk_5, blk_6, blk_7, blk_8, out_9]
  rfl

/-- The pooled mean that the body stores. -/
theorem out_10 (X : Vec Ideal S5x384x2560 .bf16) (HC : Vec Ideal S5x384x9728 .fp8e4m3) (HS : Vec Ideal S5x384x76 .f32) (W : Vec Ideal S9728x2560 .fp8e4m3)
    (WS : Vec Ideal S76x20 .f32) (B G BE : Vec Ideal S2560 .f32) (L : Vec Ideal S5 .i32) : out0_10 X HC HS W WS B G BE L = RM X HC HS W WS B G BE L := by
  unfold out0_10 k0_pay9 k0_pay10
  refine (View.canon_cons_unit_lit _ _ _ (by decide)).trans ?_
  rw [ld0, ld1, ld2, ld3, ld4, ld5, ld5, ld5, ld6]
  exact ref_m X HC HS W WS B G BE L

/-- Result 2 of the reference's run. -/
theorem final_10 (c : Dev nD) : (dats m 0 c).arrAt 10 cfg0.N = RM (a0 m c) (a1 m c) (a2 m c) (a3 m c) (a4 m c) (a5 m c) (a6 m c) (a7 m c) (a8 m c) := by
  refine (dats m 0 c).arrAt_eq_of_after_last 10 ⟨0, by decide⟩ (by decide +kernel) _ fun y => ?_
  rw [after0_10, blk_0, blk_1, blk_2, blk_3, blk_4, blk_5, blk_6, blk_7, blk_8, out_10]
  rfl

/-- The codes that the body stores. -/
theorem out_11 (X : Vec Ideal S5x384x2560 .bf16) (HC : Vec Ideal S5x384x9728 .fp8e4m3) (HS : Vec Ideal S5x384x76 .f32) (W : Vec Ideal S9728x2560 .fp8e4m3)
    (WS : Vec Ideal S76x20 .f32) (B G BE : Vec Ideal S2560 .f32) (L : Vec Ideal S5 .i32) : out0_11 X HC HS W WS B G BE L = RC X HC HS W WS B G BE L := by
  unfold out0_11 k0_pay9 k0_pay10
  refine (View.canon_cons_unit_lit _ _ _ (by decide)).trans ?_
  rw [ld0, ld1, ld2, ld3, ld4, ld5, ld5, ld5, ld6]
  exact ref_c X HC HS W WS B G BE L

/-- Result 3 of the reference's run. -/
theorem final_11 (c : Dev nD) : (dats m 0 c).arrAt 11 cfg0.N = RC (a0 m c) (a1 m c) (a2 m c) (a3 m c) (a4 m c) (a5 m c) (a6 m c) (a7 m c) (a8 m c) := by
  refine (dats m 0 c).arrAt_eq_of_after_last 11 ⟨0, by decide⟩ (by decide +kernel) _ fun y => ?_
  rw [after0_11, blk_0, blk_1, blk_2, blk_3, blk_4, blk_5, blk_6, blk_7, blk_8, out_11]
  rfl

/-- The scales that the body stores. -/
theorem out_12 (X : Vec Ideal S5x384x2560 .bf16) (HC : Vec Ideal S5x384x9728 .fp8e4m3) (HS : Vec Ideal S5x384x76 .f32) (W : Vec Ideal S9728x2560 .fp8e4m3)
    (WS : Vec Ideal S76x20 .f32) (B G BE : Vec Ideal S2560 .f32) (L : Vec Ideal S5 .i32) : out0_12 X HC HS W WS B G BE L = RS X HC HS W WS B G BE L := by
  unfold out0_12 k0_pay9 k0_pay10
  refine (View.canon_cons_unit_lit _ _ _ (by decide)).trans ?_
  rw [ld0, ld1, ld2, ld3, ld4, ld5, ld5, ld5, ld6]
  exact ref_s X HC HS W WS B G BE L

/-- Result 4 of the reference's run. -/
theorem final_12 (c : Dev nD) : (dats m 0 c).arrAt 12 cfg0.N = RS (a0 m c) (a1 m c) (a2 m c) (a3 m c) (a4 m c) (a5 m c) (a6 m c) (a7 m c) (a8 m c) := by
  refine (dats m 0 c).arrAt_eq_of_after_last 12 ⟨0, by decide⟩ (by decide +kernel) _ fun y => ?_
  rw [after0_12, blk_0, blk_1, blk_2, blk_3, blk_4, blk_5, blk_6, blk_7, blk_8, out_12]
  rfl

/-- The reference's run: the four results at the specification's values of the arguments, the arguments unchanged. -/
theorem value_run : θ_run defs (onTc (τ := τ) (main (F := Ideal))) ⟨m, fun _ => 0, ρ⟩ fun r => ∀ c : Dev nD,
      r.2.mem ((c : Thread nD τ).loc main_v0_0) = RZ (a0 m c) (a1 m c) (a2 m c) (a3 m c) (a4 m c) (a5 m c) (a6 m c) (a7 m c) (a8 m c)
      ∧ r.2.mem ((c : Thread nD τ).loc main_v0_1) = RM (a0 m c) (a1 m c) (a2 m c) (a3 m c) (a4 m c) (a5 m c) (a6 m c) (a7 m c) (a8 m c)
      ∧ r.2.mem ((c : Thread nD τ).loc main_v0_2) = RC (a0 m c) (a1 m c) (a2 m c) (a3 m c) (a4 m c) (a5 m c) (a6 m c) (a7 m c) (a8 m c)
      ∧ r.2.mem ((c : Thread nD τ).loc main_v0_3) = RS (a0 m c) (a1 m c) (a2 m c) (a3 m c) (a4 m c) (a5 m c) (a6 m c) (a7 m c) (a8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h c).1 9).trans (final_9 m c),
      ((h c).1 10).trans (final_10 m c),
      ((h c).1 11).trans (final_11 m c),
      ((h c).1 12).trans (final_12 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩) (run_main m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameK
public import proofs.«01_k».proof.Proof.FrameKI
public import proofs.«01_k».proof.Proof.RunI
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The kernel and the reference, at exact arithmetic and from equal arguments, end with the same four results: each is
    the specification's function of the nine arguments (the masked normalised stream, the pooled means, the codes, the scales). -/
theorem algebraic [hK : Cert.KernelIdeal.Facts] [hR : Cert.ReferenceIdeal.Facts] : Cert.algebraic_KernelIdeal_ReferenceIdeal := fun m g m' g' _ h =>
  ⟨fun c => Cert.KernelIdeal.Hand.RZ (Cert.KernelIdeal.Hand.a0 m c) (Cert.KernelIdeal.Hand.a1 m c) (Cert.KernelIdeal.Hand.a2 m c) (Cert.KernelIdeal.Hand.a3 m c) (Cert.KernelIdeal.Hand.a4 m c) (Cert.KernelIdeal.Hand.a5 m c) (Cert.KernelIdeal.Hand.a6 m c) (Cert.KernelIdeal.Hand.a7 m c) (Cert.KernelIdeal.Hand.a8 m c),
   fun c => Cert.KernelIdeal.Hand.RM (Cert.KernelIdeal.Hand.a0 m c) (Cert.KernelIdeal.Hand.a1 m c) (Cert.KernelIdeal.Hand.a2 m c) (Cert.KernelIdeal.Hand.a3 m c) (Cert.KernelIdeal.Hand.a4 m c) (Cert.KernelIdeal.Hand.a5 m c) (Cert.KernelIdeal.Hand.a6 m c) (Cert.KernelIdeal.Hand.a7 m c) (Cert.KernelIdeal.Hand.a8 m c),
   fun c => Cert.KernelIdeal.Hand.RC (Cert.KernelIdeal.Hand.a0 m c) (Cert.KernelIdeal.Hand.a1 m c) (Cert.KernelIdeal.Hand.a2 m c) (Cert.KernelIdeal.Hand.a3 m c) (Cert.KernelIdeal.Hand.a4 m c) (Cert.KernelIdeal.Hand.a5 m c) (Cert.KernelIdeal.Hand.a6 m c) (Cert.KernelIdeal.Hand.a7 m c) (Cert.KernelIdeal.Hand.a8 m c),
   fun c => Cert.KernelIdeal.Hand.RS (Cert.KernelIdeal.Hand.a0 m c) (Cert.KernelIdeal.Hand.a1 m c) (Cert.KernelIdeal.Hand.a2 m c) (Cert.KernelIdeal.Hand.a3 m c) (Cert.KernelIdeal.Hand.a4 m c) (Cert.KernelIdeal.Hand.a5 m c) (Cert.KernelIdeal.Hand.a6 m c) (Cert.KernelIdeal.Hand.a7 m c) (Cert.KernelIdeal.Hand.a8 m c),
   Cert.KernelIdeal.Hand.value_run m g,
   (θ_run Cert.ReferenceIdeal.defs _ _).mono (fun r hr c => by
     obtain ⟨e0, e1, e2, e3, e4, e5, e6, e7, e8⟩ := h c
     obtain ⟨h0, h1, h2, h3, hargs⟩ := hr c
     have e0' : Cert.ReferenceIdeal.Hand.a0 m' c = Cert.KernelIdeal.Hand.a0 m c := e0
     have e1' : Cert.ReferenceIdeal.Hand.a1 m' c = Cert.KernelIdeal.Hand.a1 m c := e1
     have e2' : Cert.ReferenceIdeal.Hand.a2 m' c = Cert.KernelIdeal.Hand.a2 m c := e2
     have e3' : Cert.ReferenceIdeal.Hand.a3 m' c = Cert.KernelIdeal.Hand.a3 m c := e3
     have e4' : Cert.ReferenceIdeal.Hand.a4 m' c = Cert.KernelIdeal.Hand.a4 m c := e4
     have e5' : Cert.ReferenceIdeal.Hand.a5 m' c = Cert.KernelIdeal.Hand.a5 m c := e5
     have e6' : Cert.ReferenceIdeal.Hand.a6 m' c = Cert.KernelIdeal.Hand.a6 m c := e6
     have e7' : Cert.ReferenceIdeal.Hand.a7 m' c = Cert.KernelIdeal.Hand.a7 m c := e7
     have e8' : Cert.ReferenceIdeal.Hand.a8 m' c = Cert.KernelIdeal.Hand.a8 m c := e8
     rw [e0', e1', e2', e3', e4', e5', e6', e7', e8'] at h0 h1 h2 h3
     exact ⟨h0, h1, h2, h3, hargs⟩) (Cert.ReferenceIdeal.Hand.value_run m' g')⟩

/-- The three frames, the idealization's preservation (nothing to show), and the agreement of the four results. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ, trivial, algebraic⟩

end Cert.Proof

end
